-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 128]⟩ ⟨2, ![1024, 1024]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 1024]⟩ ⟨2, ![1024, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x128 : Shape := ⟨2, ![1024, 128]⟩
abbrev S1024x1024 : Shape := ⟨2, ![1024, 1024]⟩
abbrev S128x1024 : Shape := ⟨2, ![128, 1024]⟩
abbrev S8 : Shape := ⟨1, ![8]⟩
abbrev S_ : Shape := ⟨0, ![]⟩
abbrev S1 : Shape := ⟨1, ![1]⟩
abbrev S128x128 : Shape := ⟨2, ![128, 128]⟩

abbrev nBuf : Space → Nat
  | .hbm => 3
  | .vmem => 6
  | .smem => 0
  | _ => 0

abbrev bufTy : (tb : Table) → Fin (tcTables nBuf tb) → BufTy
  | .hbm, ⟨0, _⟩ => ⟨S1024x128, .bf16⟩
  | .hbm, ⟨1, _⟩ => ⟨S1024x1024, .bf16⟩
  | .hbm, ⟨2, _⟩ => ⟨S128x1024, .f32⟩
  | .local _ .vmem, ⟨0, _⟩ => ⟨S1024x128, .bf16⟩
  | .local _ .vmem, ⟨1, _⟩ => ⟨S1024x1024, .bf16⟩
  | .local _ .vmem, ⟨2, _⟩ => ⟨S128x1024, .f32⟩
  | .local _ .vmem, ⟨3, _⟩ => ⟨S1024x128, .bf16⟩
  | .local _ .vmem, ⟨4, _⟩ => ⟨S128x1024, .bf16⟩
  | .local _ .vmem, ⟨5, _⟩ => ⟨S1024x1024, .bf16⟩
  | _, _ => ⟨S1024x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) : Fin 2 → Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_74 : BitVec 32 := 128#32
  let v112 : BitVec 32 := Scalar.muli v2 c128_i32_74
  ![0, v112.toNat]
def k0_off2 (d0 : Dev nD) (c1_i32_67 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v100 : BitVec 32 := Scalar.addi v2 c1_i32_67
  let c8_i32_68 : BitVec 32 := 8#32
  let c0_i32_69 : BitVec 32 := 0#32
  let v101 : BitVec 1 := Scalar.cmpi .eq c8_i32_68 c0_i32_69
  let c1_i32_70 : BitVec 32 := 1#32
  let v102 : BitVec 32 := Scalar.select v101 c1_i32_70 c8_i32_68
  let v103 : BitVec 32 := Scalar.remsi v100 v102
  let c0_i32_72 : BitVec 32 := 0#32
  let v105 : BitVec 1 := Scalar.cmpi .slt v103 c0_i32_72
  let c0_i32_73 : BitVec 32 := 0#32
  let v106 : BitVec 1 := Scalar.cmpi .slt v102 c0_i32_73
  let v107 : BitVec 1 := Scalar.xori v105 v106
  let c0_i32_71 : BitVec 32 := 0#32
  let v104 : BitVec 1 := Scalar.cmpi .ne v103 c0_i32_71
  let v108 : BitVec 1 := Scalar.andi v107 v104
  let v109 : BitVec 32 := Scalar.addi v103 v102
  let v110 : BitVec 32 := Scalar.select v108 v109 v103
  let c128_i32 : BitVec 32 := 128#32
  let v111 : BitVec 32 := Scalar.muli v110 c128_i32
  let c0_i32_80 : BitVec 32 := 0#32
  ![v111.toNat, 0]
def k0_dev8 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_67 : BitVec 32 := 1#32
  let v100 : BitVec 32 := Scalar.addi v2 c1_i32_67
  let c8_i32_68 : BitVec 32 := 8#32
  let c0_i32_69 : BitVec 32 := 0#32
  let v101 : BitVec 1 := Scalar.cmpi .eq c8_i32_68 c0_i32_69
  let c1_i32_70 : BitVec 32 := 1#32
  let v102 : BitVec 32 := Scalar.select v101 c1_i32_70 c8_i32_68
  let v103 : BitVec 32 := Scalar.remsi v100 v102
  let c0_i32_72 : BitVec 32 := 0#32
  let v105 : BitVec 1 := Scalar.cmpi .slt v103 c0_i32_72
  let c0_i32_73 : BitVec 32 := 0#32
  let v106 : BitVec 1 := Scalar.cmpi .slt v102 c0_i32_73
  let v107 : BitVec 1 := Scalar.xori v105 v106
  let c0_i32_71 : BitVec 32 := 0#32
  let v104 : BitVec 1 := Scalar.cmpi .ne v103 c0_i32_71
  let v108 : BitVec 1 := Scalar.andi v107 v104
  let v109 : BitVec 32 := Scalar.addi v103 v102
  let v110 : BitVec 32 := Scalar.select v108 v109 v103
  let c1_i32_77 : BitVec 32 := 1#32
  let v113 : BitVec 32 := Scalar.muli v110 c1_i32_77
  let v114 : BitVec 32 := Scalar.addi c0_i32_78 v113
  v114.toNat
def k0_dev9 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_81 : BitVec 32 := 2#32
  let v121 : BitVec 32 := Scalar.addi v2 c2_i32_81
  let c8_i32_82 : BitVec 32 := 8#32
  let c0_i32_83 : BitVec 32 := 0#32
  let v122 : BitVec 1 := Scalar.cmpi .eq c8_i32_82 c0_i32_83
  let c1_i32_84 : BitVec 32 := 1#32
  let v123 : BitVec 32 := Scalar.select v122 c1_i32_84 c8_i32_82
  let v124 : BitVec 32 := Scalar.remsi v121 v123
  let c0_i32_86 : BitVec 32 := 0#32
  let v126 : BitVec 1 := Scalar.cmpi .slt v124 c0_i32_86
  let c0_i32_87 : BitVec 32 := 0#32
  let v127 : BitVec 1 := Scalar.cmpi .slt v123 c0_i32_87
  let v128 : BitVec 1 := Scalar.xori v126 v127
  let c0_i32_85 : BitVec 32 := 0#32
  let v125 : BitVec 1 := Scalar.cmpi .ne v124 c0_i32_85
  let v129 : BitVec 1 := Scalar.andi v128 v125
  let v130 : BitVec 32 := Scalar.addi v124 v123
  let v131 : BitVec 32 := Scalar.select v129 v130 v124
  let c1_i32_92 : BitVec 32 := 1#32
  let v134 : BitVec 32 := Scalar.muli v131 c1_i32_92
  let v135 : BitVec 32 := Scalar.addi c0_i32_93 v134
  v135.toNat
def k0_dev10 (d0 : Dev nD) : Nat :=
  let c0_i32_108 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_96 : BitVec 32 := 3#32
  let v142 : BitVec 32 := Scalar.addi v2 c3_i32_96
  let c8_i32_97 : BitVec 32 := 8#32
  let c0_i32_98 : BitVec 32 := 0#32
  let v143 : BitVec 1 := Scalar.cmpi .eq c8_i32_97 c0_i32_98
  let c1_i32_99 : BitVec 32 := 1#32
  let v144 : BitVec 32 := Scalar.select v143 c1_i32_99 c8_i32_97
  let v145 : BitVec 32 := Scalar.remsi v142 v144
  let c0_i32_101 : BitVec 32 := 0#32
  let v147 : BitVec 1 := Scalar.cmpi .slt v145 c0_i32_101
  let c0_i32_102 : BitVec 32 := 0#32
  let v148 : BitVec 1 := Scalar.cmpi .slt v144 c0_i32_102
  let v149 : BitVec 1 := Scalar.xori v147 v148
  let c0_i32_100 : BitVec 32 := 0#32
  let v146 : BitVec 1 := Scalar.cmpi .ne v145 c0_i32_100
  let v150 : BitVec 1 := Scalar.andi v149 v146
  let v151 : BitVec 32 := Scalar.addi v145 v144
  let v152 : BitVec 32 := Scalar.select v150 v151 v145
  let c1_i32_107 : BitVec 32 := 1#32
  let v155 : BitVec 32 := Scalar.muli v152 c1_i32_107
  let v156 : BitVec 32 := Scalar.addi c0_i32_108 v155
  v156.toNat
def k0_dev11 (d0 : Dev nD) : Nat :=
  let c0_i32_123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_111 : BitVec 32 := 4#32
  let v163 : BitVec 32 := Scalar.addi v2 c4_i32_111
  let c8_i32_112 : BitVec 32 := 8#32
  let c0_i32_113 : BitVec 32 := 0#32
  let v164 : BitVec 1 := Scalar.cmpi .eq c8_i32_112 c0_i32_113
  let c1_i32_114 : BitVec 32 := 1#32
  let v165 : BitVec 32 := Scalar.select v164 c1_i32_114 c8_i32_112
  let v166 : BitVec 32 := Scalar.remsi v163 v165
  let c0_i32_116 : BitVec 32 := 0#32
  let v168 : BitVec 1 := Scalar.cmpi .slt v166 c0_i32_116
  let c0_i32_117 : BitVec 32 := 0#32
  let v169 : BitVec 1 := Scalar.cmpi .slt v165 c0_i32_117
  let v170 : BitVec 1 := Scalar.xori v168 v169
  let c0_i32_115 : BitVec 32 := 0#32
  let v167 : BitVec 1 := Scalar.cmpi .ne v166 c0_i32_115
  let v171 : BitVec 1 := Scalar.andi v170 v167
  let v172 : BitVec 32 := Scalar.addi v166 v165
  let v173 : BitVec 32 := Scalar.select v171 v172 v166
  let c1_i32_122 : BitVec 32 := 1#32
  let v176 : BitVec 32 := Scalar.muli v173 c1_i32_122
  let v177 : BitVec 32 := Scalar.addi c0_i32_123 v176
  v177.toNat
def k0_dev12 (d0 : Dev nD) : Nat :=
  let c0_i32_138 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_126 : BitVec 32 := 5#32
  let v184 : BitVec 32 := Scalar.addi v2 c5_i32_126
  let c8_i32_127 : BitVec 32 := 8#32
  let c0_i32_128 : BitVec 32 := 0#32
  let v185 : BitVec 1 := Scalar.cmpi .eq c8_i32_127 c0_i32_128
  let c1_i32_129 : BitVec 32 := 1#32
  let v186 : BitVec 32 := Scalar.select v185 c1_i32_129 c8_i32_127
  let v187 : BitVec 32 := Scalar.remsi v184 v186
  let c0_i32_131 : BitVec 32 := 0#32
  let v189 : BitVec 1 := Scalar.cmpi .slt v187 c0_i32_131
  let c0_i32_132 : BitVec 32 := 0#32
  let v190 : BitVec 1 := Scalar.cmpi .slt v186 c0_i32_132
  let v191 : BitVec 1 := Scalar.xori v189 v190
  let c0_i32_130 : BitVec 32 := 0#32
  let v188 : BitVec 1 := Scalar.cmpi .ne v187 c0_i32_130
  let v192 : BitVec 1 := Scalar.andi v191 v188
  let v193 : BitVec 32 := Scalar.addi v187 v186
  let v194 : BitVec 32 := Scalar.select v192 v193 v187
  let c1_i32_137 : BitVec 32 := 1#32
  let v197 : BitVec 32 := Scalar.muli v194 c1_i32_137
  let v198 : BitVec 32 := Scalar.addi c0_i32_138 v197
  v198.toNat
def k0_dev13 (d0 : Dev nD) : Nat :=
  let c0_i32_153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_141 : BitVec 32 := 6#32
  let v205 : BitVec 32 := Scalar.addi v2 c6_i32_141
  let c8_i32_142 : BitVec 32 := 8#32
  let c0_i32_143 : BitVec 32 := 0#32
  let v206 : BitVec 1 := Scalar.cmpi .eq c8_i32_142 c0_i32_143
  let c1_i32_144 : BitVec 32 := 1#32
  let v207 : BitVec 32 := Scalar.select v206 c1_i32_144 c8_i32_142
  let v208 : BitVec 32 := Scalar.remsi v205 v207
  let c0_i32_146 : BitVec 32 := 0#32
  let v210 : BitVec 1 := Scalar.cmpi .slt v208 c0_i32_146
  let c0_i32_147 : BitVec 32 := 0#32
  let v211 : BitVec 1 := Scalar.cmpi .slt v207 c0_i32_147
  let v212 : BitVec 1 := Scalar.xori v210 v211
  let c0_i32_145 : BitVec 32 := 0#32
  let v209 : BitVec 1 := Scalar.cmpi .ne v208 c0_i32_145
  let v213 : BitVec 1 := Scalar.andi v212 v209
  let v214 : BitVec 32 := Scalar.addi v208 v207
  let v215 : BitVec 32 := Scalar.select v213 v214 v208
  let c1_i32_152 : BitVec 32 := 1#32
  let v218 : BitVec 32 := Scalar.muli v215 c1_i32_152
  let v219 : BitVec 32 := Scalar.addi c0_i32_153 v218
  v219.toNat
def k0_dev14 (d0 : Dev nD) : Nat :=
  let c0_i32_168 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_156 : BitVec 32 := 7#32
  let v226 : BitVec 32 := Scalar.addi v2 c7_i32_156
  let c8_i32_157 : BitVec 32 := 8#32
  let c0_i32_158 : BitVec 32 := 0#32
  let v227 : BitVec 1 := Scalar.cmpi .eq c8_i32_157 c0_i32_158
  let c1_i32_159 : BitVec 32 := 1#32
  let v228 : BitVec 32 := Scalar.select v227 c1_i32_159 c8_i32_157
  let v229 : BitVec 32 := Scalar.remsi v226 v228
  let c0_i32_161 : BitVec 32 := 0#32
  let v231 : BitVec 1 := Scalar.cmpi .slt v229 c0_i32_161
  let c0_i32_162 : BitVec 32 := 0#32
  let v232 : BitVec 1 := Scalar.cmpi .slt v228 c0_i32_162
  let v233 : BitVec 1 := Scalar.xori v231 v232
  let c0_i32_160 : BitVec 32 := 0#32
  let v230 : BitVec 1 := Scalar.cmpi .ne v229 c0_i32_160
  let v234 : BitVec 1 := Scalar.andi v233 v230
  let v235 : BitVec 32 := Scalar.addi v229 v228
  let v236 : BitVec 32 := Scalar.select v234 v235 v229
  let c1_i32_167 : BitVec 32 := 1#32
  let v239 : BitVec 32 := Scalar.muli v236 c1_i32_167
  let v240 : BitVec 32 := Scalar.addi c0_i32_168 v239
  v240.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_171 : BitVec 32 := 128#32
  let v247 : BitVec 32 := Scalar.muli v2 c128_i32_171
  let v248 : Index := Scalar.indexCast v247
  let c0_172 : Index := 0#32
  ![v248.toNat, 0]
def k0_off4 (d0 : Dev nD) : Fin 2 → Nat :=
  let c0_174 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_173 : BitVec 32 := 128#32
  let v250 : BitVec 32 := Scalar.muli v2 c128_i32_173
  let v251 : Index := Scalar.indexCast v250
  ![0, v251.toNat]
abbrev stage0_0 : Fin 1 → Memref sig .tc .vmem S1024x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .bf16⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.KernelIdealSlots.lean ====
/-
# The mesh arithmetic, the buffers cut into blocks, and the semaphores of the exchange

Eight devices. Device `c` sends, at shift `s` (1 to 7), block `dst s c = c + s` of its rows to device `dst s c`, where it
lands in the block of columns numbered `c`. Here are: the two shifts, the closed forms of the addresses the kernel
computes, the two exchanged buffers cut into eight blocks each, and what a landing leaves in its block.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Tactic
public import Idealize.ShloMosaic.Lib.Ring
public import Idealize.ShloMosaic.Lib.ViewIndex

@[expose] public section

noncomputable section

namespace Cert.KernelIdealExchange

open Cert.KernelIdeal Cert.KernelIdeal.Gen
open Idealize.ShloMosaic
open Idealize.ShloMosaic.TcCoe

/-! ## The shifts -/

set_option backward.proofsInPublic true in
/-- The device `c` sends to at shift `s`. -/
def dst (s : Fin 8) (c : Dev nD) : Dev nD := ⟨(c.val + s.val) % 8, Nat.mod_lt _ (by decide)⟩
set_option backward.proofsInPublic true in
/-- The device `c` receives from at shift `s`. -/
def src (s : Fin 8) (c : Dev nD) : Dev nD := ⟨(c.val + (8 - s.val)) % 8, Nat.mod_lt _ (by decide)⟩

/-- The two shifts undo one another. -/
theorem src_dst (s : Fin 8) (c : Dev nD) : src s (dst s c) = c := by revert s c; decide
theorem dst_src (s : Fin 8) (c : Dev nD) : dst s (src s c) = c := by revert s c; decide
/-- Different shifts send to different devices, and receive from different devices. -/
theorem dst_inj (c : Dev nD) {s t : Fin 8} (h : dst s c = dst t c) : s = t := by revert s t c; decide
theorem src_inj (c : Dev nD) {s t : Fin 8} (h : src s c = src t c) : s = t := by revert s t c; decide
/-- Shift 0 is the device itself. -/
theorem dst_zero (c : Dev nD) : dst 0 c = c := by revert c; decide
theorem src_zero (c : Dev nD) : src 0 c = c := by revert c; decide

/-- Shifting by `s`, as a permutation of the devices. -/
def shift (s : Fin 8) : Dev nD ≃ Dev nD := ⟨dst s, src s, src_dst s, dst_src s⟩
/-- The shifts at a device, as a numbering of the devices it sends to. -/
def around (c : Dev nD) : Fin 8 ≃ Dev nD :=
  Equiv.ofBijective (fun s => dst s c) ⟨fun _ _ h => dst_inj c h, fun d => by revert c d; decide⟩
/-- The shifts at a device, as a numbering of the devices it receives from. -/
def around' (c : Dev nD) : Fin 8 ≃ Dev nD :=
  Equiv.ofBijective (fun s => src s c) ⟨fun _ _ h => src_inj c h, fun d => by revert c d; decide⟩

/-! ## The addresses the kernel computes -/

theorem dev1_eq (c : Dev nD) : (⟨k0_dev1 c, k0_dev1_lt c⟩ : Dev nD) = dst 1 c := by revert c; decide +kernel
theorem dev2_eq (c : Dev nD) : (⟨k0_dev2 c, k0_dev2_lt c⟩ : Dev nD) = dst 2 c := by revert c; decide +kernel
theorem dev3_eq (c : Dev nD) : (⟨k0_dev3 c, k0_dev3_lt c⟩ : Dev nD) = dst 3 c := by revert c; decide +kernel
theorem dev4_eq (c : Dev nD) : (⟨k0_dev4 c, k0_dev4_lt c⟩ : Dev nD) = dst 4 c := by revert c; decide +kernel
theorem dev5_eq (c : Dev nD) : (⟨k0_dev5 c, k0_dev5_lt c⟩ : Dev nD) = dst 5 c := by revert c; decide +kernel
theorem dev6_eq (c : Dev nD) : (⟨k0_dev6 c, k0_dev6_lt c⟩ : Dev nD) = dst 6 c := by revert c; decide +kernel
theorem dev7_eq (c : Dev nD) : (⟨k0_dev7 c, k0_dev7_lt c⟩ : Dev nD) = dst 7 c := by revert c; decide +kernel
theorem dev8_eq (c : Dev nD) : (⟨k0_dev8 c, k0_dev8_lt c⟩ : Dev nD) = dst 1 c := by revert c; decide +kernel
theorem dev9_eq (c : Dev nD) : (⟨k0_dev9 c, k0_dev9_lt c⟩ : Dev nD) = dst 2 c := by revert c; decide +kernel
theorem dev10_eq (c : Dev nD) : (⟨k0_dev10 c, k0_dev10_lt c⟩ : Dev nD) = dst 3 c := by revert c; decide +kernel
theorem dev11_eq (c : Dev nD) : (⟨k0_dev11 c, k0_dev11_lt c⟩ : Dev nD) = dst 4 c := by revert c; decide +kernel
theorem dev12_eq (c : Dev nD) : (⟨k0_dev12 c, k0_dev12_lt c⟩ : Dev nD) = dst 5 c := by revert c; decide +kernel
theorem dev13_eq (c : Dev nD) : (⟨k0_dev13 c, k0_dev13_lt c⟩ : Dev nD) = dst 6 c := by revert c; decide +kernel
theorem dev14_eq (c : Dev nD) : (⟨k0_dev14 c, k0_dev14_lt c⟩ : Dev nD) = dst 7 c := by revert c; decide +kernel

/-- The rows a device sends at shift `r + 1` are the block its target is numbered by. -/
theorem off2_eq (c : Dev nD) (r : Fin 7) : k0_off2 c (BitVec.ofNat 32 (1 + r.val)) = ![128 * (dst r.succ c).val, 0] := by
  revert c r; decide +kernel

/-! ## The buffers -/

/-- The staged argument blocks and result, the sent rows, the gathered columns, the weights as the product reads them. -/
abbrev xM : Memref sig .tc .vmem S1024x128 .bf16 := Memref.whole cc0_stg0_0
abbrev wM : Memref sig .tc .vmem S1024x1024 .bf16 := Memref.whole cc0_stg1_0
abbrev oM : Memref sig .tc .vmem S128x1024 .f32 := Memref.whole cc0_stg2_0
abbrev sM : Memref sig .tc .vmem S1024x128 .bf16 := Memref.whole cc0_scratch0
abbrev gM : Memref sig .tc .vmem S128x1024 .bf16 := Memref.whole cc0_scratch1
abbrev bM : Memref sig .tc .vmem S1024x1024 .bf16 := Memref.whole cc0_scratch2

theorem inbRow (d : Dev nD) : ∀ a, (![128 * d.val, 0] : Fin 2 → Nat) a + S128x128.size a ≤ S1024x128.size a := by
  revert d; decide
theorem inbCol (d : Dev nD) : ∀ a, (![0, 128 * d.val] : Fin 2 → Nat) a + S128x128.size a ≤ S128x1024.size a := by
  revert d; decide

/-- Block `d` of the sent buffer's rows; block `d` of the gathered buffer's columns. -/
abbrev rowR (d : Dev nD) : Rect S1024x128 := Rect.unit (s := S1024x128) ![128 * d.val, 0] S128x128.size (inbRow d)
abbrev colR (d : Dev nD) : Rect S128x1024 := Rect.unit (s := S128x1024) ![0, 128 * d.val] S128x128.size (inbCol d)
abbrev rowM (d : Dev nD) : Memref sig .tc .vmem S128x128 .bf16 := sM.slice (rowR d) (fun _ => rfl)
abbrev colM (d : Dev nD) : Memref sig .tc .vmem S128x128 .bf16 := gM.slice (colR d) (fun _ => rfl)

/-- The elements of the two blocks. -/
def rowI (d : Dev nD) : Finset S1024x128.Idx := (rowM d).view.set
def colI (d : Dev nD) : Finset S128x1024.Idx := (colM d).view.set

theorem mem_rowI {d : Dev nD} {i : S1024x128.Idx} : i ∈ rowI d ↔ (i 0).val / 128 = d.val := by
  unfold rowI
  rw [show (rowM d).view.set = (rowR d).set from View.set_slice_whole cc0_scratch0 (rowR d), Rect.mem_set_unit]
  have h1 : (i 1).val < 128 := (i 1).isLt
  constructor
  · intro h
    have h0 := h 0
    simp [S128x128] at h0
    omega
  · intro h a
    fin_cases a
    · simp [S128x128]; omega
    · simp [S128x128]; omega

theorem mem_colI {d : Dev nD} {i : S128x1024.Idx} : i ∈ colI d ↔ (i 1).val / 128 = d.val := by
  unfold colI
  rw [show (colM d).view.set = (colR d).set from View.set_slice_whole cc0_scratch1 (colR d), Rect.mem_set_unit]
  have h1 : (i 0).val < 128 := (i 0).isLt
  constructor
  · intro h
    have h0 := h 1
    simp [S128x128] at h0
    omega
  · intro h a
    fin_cases a
    · simp [S128x128]; omega
    · simp [S128x128]; omega

theorem rowI_disjoint (d e : Dev nD) (h : d ≠ e) : Disjoint (rowI d) (rowI e) :=
  Finset.disjoint_left.mpr fun i hi hj => h (Fin.ext ((mem_rowI.mp hi).symm.trans (mem_rowI.mp hj)))
theorem colI_disjoint (d e : Dev nD) (h : d ≠ e) : Disjoint (colI d) (colI e) :=
  Finset.disjoint_left.mpr fun i hi hj => h (Fin.ext ((mem_colI.mp hi).symm.trans (mem_colI.mp hj)))
theorem rowI_cover : Finset.univ.biUnion rowI = Finset.univ :=
  Finset.eq_univ_iff_forall.mpr fun i => Finset.mem_biUnion.mpr
    ⟨⟨(i 0).val / 128, by have : (i 0).val < 1024 := (i 0).isLt; show _ < 8; omega⟩, Finset.mem_univ _, mem_rowI.mpr rfl⟩
theorem colI_cover : Finset.univ.biUnion colI = Finset.univ :=
  Finset.eq_univ_iff_forall.mpr fun i => Finset.mem_biUnion.mpr
    ⟨⟨(i 1).val / 128, by have : (i 1).val < 1024 := (i 1).isLt; show _ < 8; omega⟩, Finset.mem_univ _, mem_colI.mpr rfl⟩

/-! ## What the exchange gathers -/

/-- From one block of a thousand rows per device, the 128 rows numbered `c` of every device's block, side by side:
    row `i`, column `j` is row `128 c + i`, column `j % 128` of device `j / 128`'s block. -/
def gather {α : Type} (X : Dev nD → S1024x128.Idx → α) (c : Dev nD) : S128x1024.Idx → α := fun i =>
  X ⟨(i 1).val / 128, by have : (i 1).val < 1024 := (i 1).isLt; show _ < 8; omega⟩
    (Shape.pair ⟨128 * c.val + (i 0).val, by have : (i 0).val < 128 := (i 0).isLt; have : c.val < 8 := c.isLt; show _ < 1024; omega⟩
      ⟨(i 1).val % 128, Nat.mod_lt _ (by decide)⟩)

/-- Under block `d` of the columns, the gathered rows are block `c` of device `d`'s rows. -/
theorem gather_emb {α : Type} (X : Dev nD → S1024x128.Idx → α) (c d : Dev nD) (x : S128x128.Idx) :
    gather X c ((colR d).emb x) = X d ((rowR c).emb x) := by
  have hx0 : (x 0).val < 128 := (x 0).isLt
  have hx1 : (x 1).val < 128 := (x 1).isLt
  have e0 : ((colR d).emb x 0).val = (x 0).val := by rw [Rect.emb_apply]; simp
  have e1 : ((colR d).emb x 1).val = 128 * d.val + (x 1).val := by rw [Rect.emb_apply]; simp
  have f0 : ((rowR c).emb x 0).val = 128 * c.val + (x 0).val := by rw [Rect.emb_apply]; simp
  have f1 : ((rowR c).emb x 1).val = (x 1).val := by rw [Rect.emb_apply]; simp
  have h0 : ((colR d).emb x 1).val / 128 = d.val := by rw [e1]; omega
  have h1 : ((colR d).emb x 1).val % 128 = ((rowR c).emb x 1).val := by rw [e1, f1]; omega
  have h2 : 128 * c.val + ((colR d).emb x 0).val = ((rowR c).emb x 0).val := by rw [e0, f0]
  unfold gather
  refine congrArg₂ X (Fin.ext h0) (funext fun a => Fin.ext ?_)
  match a with
  | ⟨0, _⟩ => exact h2
  | ⟨1, _⟩ => exact h1

variable {F : FTy → Type} [FloatOps F]

omit [FloatOps F] in
/-- Block `c` of device `d`'s rows written over block `d` of the columns leaves there the gathered rows of `c`. -/
theorem landing_eq (X : Dev nD → S1024x128.Idx → Elt F .bf16) (c d : Dev nD) (fd : S128x1024.Idx → Elt F .bf16) :
    ∀ i ∈ colI d, ((colM d).view.write (Elt F) fd ((rowM c).view.read (Elt F) (X d)) Finset.univ) i = gather X c i := by
  intro i hi
  obtain ⟨x, -, rfl⟩ := Finset.mem_map.mp hi
  exact (View.write_emb_of_mem (v := (colM d).view) fd _ (Finset.mem_univ x)).trans (gather_emb X c d x).symm

/-! ## The semaphores -/

theorem inbSem (s : Fin 8) : ∀ a, (![s.val] : Fin 1 → Nat) a + S1.size a ≤ S8.size a := by revert s; decide

/-- The runtime's barrier semaphore; the semaphores of the departures and of the arrivals, one of each per shift. -/
abbrev barS : Sem sig := (SemArray.scalar (sig.barrier 0 rfl) : Sems sig S_).sem
abbrev sendS (s : Fin 8) : DmaSem sig := ((cc0_scratch3.slice (Rect.unit (s := S8) ![s.val] S1.size (inbSem s))).squeeze S_ squeezes_S1_S_).sem
abbrev recvS (s : Fin 8) : DmaSem sig := ((cc0_scratch4.slice (Rect.unit (s := S8) ![s.val] S1.size (inbSem s))).squeeze S_ squeezes_S1_S_).sem

theorem sendS_val (s : Fin 8) : (sendS s).val = 3 + s.val := by revert s; decide +kernel
theorem recvS_val (s : Fin 8) : (recvS s).val = 11 + s.val := by revert s; decide +kernel

/-- What one block of 128 by 128 elements credits. -/
abbrev N : ℕ := (colM (0 : Dev nD)).view.dmaCredit
theorem N_pos : 0 < N := View.dmaCredit_pos _ (by decide)
theorem credit_col (d : Dev nD) : (colM d).view.dmaCredit = N := rfl
theorem credit_row (d : Dev nD) : (rowM d).view.dmaCredit = N := rfl

end Cert.KernelIdealExchange
-- ==== Proof.KernelIdealSchedule.lean ====
/-
# The schedule of the exchange

Who raises which semaphore, by how much, and what each raise hands over.

* The barrier semaphore of device `c` is raised by one by each of the other seven devices `d`; the raise hands `c` the block
  of columns numbered `c` of `d`'s gathered buffer, into which `c` will send. `c` waits for seven.
* The arrival semaphore `s` of device `c` (`s` from 1 to 7) is raised once, by the copy of `src s c`; it hands `c` the block
  of columns numbered `src s c` of its own gathered buffer, holding the gathered rows.
* The departure semaphore `s` of device `c` is raised once, by `c`'s own copy to `dst s c`; it hands back the rows that were read.
* Index 0 of both arrays of semaphores is never raised nor waited for.
-/
module

public import proofs.«01_k».proof.Proof.KernelIdealSlots

@[expose] public section

noncomputable section

namespace Cert.KernelIdealExchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: the pipeline library's and the exchange's, its duties named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

abbrev barCell (c : Dev nD) : GSem nD τ sig := ((c : Thread nD τ), .reg barS)
abbrev sendCell (s : Fin 8) (c : Dev nD) : GSem nD τ sig := ((c : Thread nD τ), .dma (sendS s))
abbrev recvCell (s : Fin 8) (c : Dev nD) : GSem nD τ sig := ((c : Thread nD τ), .dma (recvS s))

/-- What a semaphore is to the exchange. -/
inductive Role where
  | bar
  | send (s : Fin 8)
  | recv (s : Fin 8)
  | other

/-- The role of each semaphore. -/
def role : SemLoc sig → Role
  | .reg _ => .bar
  | .dma q =>
      if h : 3 ≤ q.val ∧ q.val < 11 then .send ⟨q.val - 3, by omega⟩
      else if h : 11 ≤ q.val ∧ q.val < 19 then .recv ⟨q.val - 11, by omega⟩
      else .other

theorem role_bar : role (.reg barS) = .bar := rfl
theorem role_send (s : Fin 8) : role (.dma (sendS s)) = .send s := by
  have h := sendS_val s
  unfold role; dsimp only
  rw [dif_pos ⟨by omega, by omega⟩]
  exact congrArg Role.send (Fin.ext (by show (sendS s).val - 3 = s.val; omega))
theorem role_recv (s : Fin 8) : role (.dma (recvS s)) = .recv s := by
  have h := recvS_val s
  unfold role; dsimp only
  rw [dif_neg (by omega), dif_pos ⟨by omega, by omega⟩]
  exact congrArg Role.recv (Fin.ext (by show (recvS s).val - 11 = s.val; omega))

/-- All the cells of a device: the barrier, the departures, the arrivals. -/
abbrev Own : Type := Fin 8 ⊕ Fin 8
abbrev Cel : Type := Unit ⊕ Own
abbrev osem : Own → SemLoc sig := fun | .inl s => .dma (sendS s) | .inr s => .dma (recvS s)
abbrev csem : Cel → SemLoc sig := fun | .inl _ => .reg barS | .inr o => osem o
abbrev kcell (ck : Dev nD × Cel) : GSem nD τ sig := ((ck.1 : Thread nD τ), csem ck.2)

/-! ## The elements -/

/-- What the rows sent by each device hold. -/
abbrev Rows (F : FTy → Type) : Type := Dev nD → S1024x128.Idx → Elt F .bf16

/-- Block `d` of device `c`'s gathered buffer, at contents `f`; block `d` of its sent buffer, at contents `f`. -/
def colPts (c d : Dev nD) (f : S128x1024.Idx → Elt F .bf16) : sProp 𝕄 := (gM : Memref sig .tc .vmem S128x1024 .bf16).view.loc (c : Thread nD τ) ↦[colI d]{fullShare} f
def rowPts (c d : Dev nD) (f : S1024x128.Idx → Elt F .bf16) : sProp 𝕄 := (sM : Memref sig .tc .vmem S1024x128 .bf16).view.loc (c : Thread nD τ) ↦[rowI d]{fullShare} f

omit [FloatOps F] in
instance colPts_storable (c d : Dev nD) (f) : BI.Storable (upEmb : UEmb _ 𝕄) (colPts (F := F) c d f) := by unfold colPts; infer_instance
omit [FloatOps F] in
instance rowPts_storable (c d : Dev nD) (f) : BI.Storable (upEmb : UEmb _ 𝕄) (rowPts (F := F) c d f) := by unfold rowPts; infer_instance

omit [FloatOps F] in
/-- The gathered buffer held whole is its eight blocks of columns; -/
theorem cols_whole (c : Dev nD) (f : S128x1024.Idx → Elt F .bf16) :
    (((c : Thread nD τ).loc cc0_scratch1) ↦{fullShare} f : sProp 𝕄) = bigSep Finset.univ fun d : Dev nD => colPts c d f :=
  Ring.pointsTo_blocks (Ix := Unit) (Name := ℕ) (U := UU) (Lvl := ℕ) (q := fullShare) (ℓ := (c : Thread nD τ).loc cc0_scratch1) colI colI_disjoint colI_cover f
omit [FloatOps F] in
/-- the sent buffer its eight blocks of rows. -/
theorem rows_whole (c : Dev nD) (f : S1024x128.Idx → Elt F .bf16) :
    (((c : Thread nD τ).loc cc0_scratch0) ↦{fullShare} f : sProp 𝕄) = bigSep Finset.univ fun d : Dev nD => rowPts c d f :=
  Ring.pointsTo_blocks (Ix := Unit) (Name := ℕ) (U := UU) (Lvl := ℕ) (q := fullShare) (ℓ := (c : Thread nD τ).loc cc0_scratch0) rowI rowI_disjoint rowI_cover f

/-! ## The schedule -/

variable (X : Rows F)

/-- The one name of the duty of a copy's raise. -/
abbrev one : Dev nD := 0

def exDuties (g : GSem nD τ sig) (r : ℕ) : Finset (Dev nD) :=
  if r = 0 ∧ g.1.2 = .tc then
    match role g.2 with
    | .bar => Finset.univ.erase g.1.1
    | .send s => if s = 0 then ∅ else {one}
    | .recv s => if s = 0 then ∅ else {one}
    | .other => ∅
  else ∅

def exAmount (g : GSem nD τ sig) : ℕ := match role g.2 with | .bar => 1 | _ => N

def exPayload (g : GSem nD τ sig) (d : Dev nD) : sProp 𝕄 := match role g.2 with
  | .bar => iprop(∃ f, colPts d g.1.1 f)
  | .send s => rowPts g.1.1 (dst s g.1.1) (X g.1.1)
  | .recv s => colPts g.1.1 (src s g.1.1) (gather X g.1.1)
  | .other => iprop(emp)

/-- The schedule: one round. -/
def exRd : Rounds.Schedule (GSem nD τ sig) (Dev nD) 𝕄 where
  duties := exDuties
  unitless _ := False
  amount g _ _ := exAmount g
  payload g _ d := exPayload X g d
  amount_pos g _ _ _ := by
    show 0 < exAmount g
    unfold exAmount
    split
    · exact Nat.one_pos
    · exact N_pos

omit [FloatOps F] in
instance exRd_payload_storable (g : GSem nD τ sig) (r : ℕ) (d : Dev nD) : BI.Storable (upEmb : UEmb _ 𝕄) ((exRd X).payload g r d) := by
  show BI.Storable upEmb (exPayload X g d)
  unfold exPayload
  split <;> infer_instance

section Facts
variable (c d : Dev nD) (s : Fin 8)

omit [FloatOps F]

theorem duties_bar : (exRd X).duties (barCell c) 0 = Finset.univ.erase c := by
  show exDuties (barCell c) 0 = _
  unfold exDuties; rw [if_pos ⟨rfl, rfl⟩, role_bar]
theorem duties_send (hs : s ≠ 0) : (exRd X).duties (sendCell s c) 0 = {one} := by
  show exDuties (sendCell s c) 0 = _
  unfold exDuties; rw [if_pos ⟨rfl, rfl⟩, role_send]; exact if_neg hs
theorem duties_recv (hs : s ≠ 0) : (exRd X).duties (recvCell s c) 0 = {one} := by
  show exDuties (recvCell s c) 0 = _
  unfold exDuties; rw [if_pos ⟨rfl, rfl⟩, role_recv]; exact if_neg hs
theorem duties_later (g : GSem nD τ sig) : ∀ r, 1 ≤ r → (exRd X).duties g r = ∅ := fun r hr => by
  show exDuties g r = _
  unfold exDuties; exact if_neg fun h => by omega
/-- The two unused semaphores have no duty at all. -/
theorem duties_send_zero : ∀ r, 0 ≤ r → (exRd X).duties (sendCell 0 c) r = ∅ := fun r _ => by
  show exDuties (sendCell 0 c) r = _
  unfold exDuties; rw [role_send]; split <;> rfl
theorem duties_recv_zero : ∀ r, 0 ≤ r → (exRd X).duties (recvCell 0 c) r = ∅ := fun r _ => by
  show exDuties (recvCell 0 c) r = _
  unfold exDuties; rw [role_recv]; split <;> rfl

theorem amount_bar : (exRd X).amount (barCell c) 0 d = 1 := by
  show exAmount (barCell c) = 1
  unfold exAmount; rw [role_bar]
theorem amount_send : (exRd X).amount (sendCell s c) 0 d = N := by
  show exAmount (sendCell s c) = N
  unfold exAmount; rw [role_send]
theorem amount_recv : (exRd X).amount (recvCell s c) 0 d = N := by
  show exAmount (recvCell s c) = N
  unfold exAmount; rw [role_recv]

theorem expect_bar : (exRd X).expect (barCell c) 0 = 7 := by
  unfold Schedule.expect Schedule.amountOf
  rw [duties_bar, Finset.sum_congr rfl fun d _ => amount_bar X c d, Finset.sum_const, smul_eq_mul, Nat.mul_one]
  revert c; decide
theorem expect_send (hs : s ≠ 0) : (exRd X).expect (sendCell s c) 0 = N := by
  unfold Schedule.expect Schedule.amountOf; rw [duties_send X c s hs, Finset.sum_singleton, amount_send]
theorem expect_recv (hs : s ≠ 0) : (exRd X).expect (recvCell s c) 0 = N := by
  unfold Schedule.expect Schedule.amountOf; rw [duties_recv X c s hs, Finset.sum_singleton, amount_recv]

theorem payload_bar : (exRd X).payload (barCell c) 0 d = iprop(∃ f, colPts d c f) := by
  show exPayload X (barCell c) d = _
  unfold exPayload; rw [role_bar]
theorem payload_send : (exRd X).payload (sendCell s c) 0 d = rowPts c (dst s c) (X c) := by
  show exPayload X (sendCell s c) d = _
  unfold exPayload; rw [role_send]
theorem payload_recv : (exRd X).payload (recvCell s c) 0 d = colPts c (src s c) (gather X c) := by
  show exPayload X (recvCell s c) d = _
  unfold exPayload; rw [role_recv]

/-- What a whole round hands its waiter: the barrier, a block of columns of every other device; -/
theorem rest_bar : bigSep ((exRd X).duties (barCell c) 0 \ ∅) (fun d => (exRd X).payload (barCell c) 0 d)
    = bigSep (Finset.univ.erase c) fun d => iprop(∃ f, colPts d c f) := by
  rw [Finset.sdiff_empty, duties_bar]; exact bigSep_congr fun d _ => payload_bar X c d
/-- a departure, the rows read; -/
theorem rest_send (hs : s ≠ 0) : bigSep ((exRd X).duties (sendCell s c) 0 \ ∅) (fun d => (exRd X).payload (sendCell s c) 0 d) = rowPts c (dst s c) (X c) := by
  rw [Finset.sdiff_empty, duties_send X c s hs, bigSep_singleton, payload_send]
/-- an arrival, the gathered rows in their block. -/
theorem rest_recv (hs : s ≠ 0) : bigSep ((exRd X).duties (recvCell s c) 0 \ ∅) (fun d => (exRd X).payload (recvCell s c) 0 d) = colPts c (src s c) (gather X c) := by
  rw [Finset.sdiff_empty, duties_recv X c s hs, bigSep_singleton, payload_recv]

end Facts

/-! ## The shifts passed and to come -/

/-- The shifts after the `k`th; the shifts up to it (never 0). -/
def after (k : ℕ) : Finset (Fin 8) := Finset.univ.filter fun s => k < s.val
def upto (k : ℕ) : Finset (Fin 8) := Finset.univ.filter fun s => 0 < s.val ∧ s.val ≤ k

theorem mem_after {k : ℕ} {s : Fin 8} : s ∈ after k ↔ k < s.val := by unfold after; simp
theorem mem_upto {k : ℕ} {s : Fin 8} : s ∈ upto k ↔ 0 < s.val ∧ s.val ≤ k := by unfold upto; simp
theorem not_mem_after {s : Fin 8} : s ∉ after s.val := fun h => Nat.lt_irrefl _ (mem_after.mp h)
theorem after_step {k : ℕ} {s : Fin 8} (hs : s.val = k + 1) : after k = insert s (after s.val) := by
  ext t; rw [Finset.mem_insert, mem_after, mem_after, Fin.ext_iff]; omega
theorem not_mem_upto {k : ℕ} {s : Fin 8} (hs : s.val = k + 1) : s ∉ upto k := fun h => by have := mem_upto.mp h; omega
theorem upto_step {k : ℕ} {s : Fin 8} (hs : s.val = k + 1) : upto s.val = insert s (upto k) := by
  ext t; rw [Finset.mem_insert, mem_upto, mem_upto, Fin.ext_iff]; omega
theorem after_seven : after 7 = ∅ := by decide
theorem upto_zero : upto 0 = ∅ := by decide
theorem upto_seven : upto 7 = after 0 := by decide
theorem ne_zero_of_step {k : ℕ} {s : Fin 8} (hs : s.val = k + 1) : s ≠ 0 := fun h => by
  have : s.val = 0 := congrArg Fin.val h
  omega
theorem univ_after : (Finset.univ : Finset (Fin 8)) = insert 0 (after 0) := by decide
theorem zero_not_mem_after : (0 : Fin 8) ∉ after 0 := by decide
theorem after_ne_zero {s : Fin 8} (hs : s ∈ after 0) : s ≠ 0 := fun h => zero_not_mem_after (h ▸ hs)

/-! ## What a device owes, and the levels -/

/-- After the `k`th copy, a device owes the arrivals of the later ones; -/
def owedSend (k : ℕ) (c : Dev nD) : CellTallies nD τ sig Unit := ∑ s ∈ after k, tallyAt (recvCell s (dst s c)) () N
/-- after the `k`th signal, the later signals and every arrival. -/
def owedSig (k : ℕ) (c : Dev nD) : CellTallies nD τ sig Unit := owedSend 0 c + ∑ s ∈ after k, tallyAt (barCell (dst s c)) () 1

theorem owedSend_step {k : ℕ} {s : Fin 8} (hs : s.val = k + 1) (c : Dev nD) :
    owedSend k c = owedSend s.val c + tallyAt (recvCell s (dst s c)) () N := by
  unfold owedSend; rw [after_step hs, Finset.sum_insert not_mem_after, add_comm]
theorem owedSig_step {k : ℕ} {s : Fin 8} (hs : s.val = k + 1) (c : Dev nD) :
    owedSig k c = owedSig s.val c + tallyAt (barCell (dst s c)) () 1 := by
  unfold owedSig; rw [after_step hs, Finset.sum_insert not_mem_after, add_assoc, add_comm (tallyAt _ _ _)]
theorem owedSend_seven (c : Dev nD) : owedSend 7 c = 0 := by unfold owedSend; rw [after_seven, Finset.sum_empty]
theorem owedSig_seven (c : Dev nD) : owedSig 7 c = owedSend 0 c := by unfold owedSig; rw [after_seven, Finset.sum_empty, add_zero]

def L (g : GSem nD τ sig) : Finset Unit := if g.1.2 = .tc then {()} else ∅
/-- Barriers at 1, arrivals at 2, everything else at 0. -/
def lv (g : GSem nD τ sig) (_ : Unit) : ℕ := match role g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; rw [role_bar]
theorem lv_recv (s : Fin 8) (c : Dev nD) (u : Unit) : lv (recvCell s c) u = 2 := by unfold lv; rw [role_recv]

/-- A cell to which a sum of tallies gives something gets it from one of them. -/
theorem sum_tally_pos {I : Type} (S : Finset I) (f : I → GSem nD τ sig) (n : ℕ) {g : GSem nD τ sig} {u : Unit}
    (h : 0 < (∑ s ∈ S, (tallyAt (f s) () n : CellTallies nD τ sig Unit)) g u) : ∃ s ∈ S, g = f s := by
  by_contra hn
  refine Nat.lt_irrefl 0 (lt_of_lt_of_eq h ?_)
  rw [Finset.sum_apply, Finsupp.finset_sum_apply]
  refine Finset.sum_eq_zero fun s hs => ?_
  rw [tallyAt_apply]
  exact if_neg fun h' => hn ⟨s, hs, h'.1⟩

theorem owedSend_pos {k : ℕ} {c : Dev nD} {g : GSem nD τ sig} {u : Unit} (h : 0 < owedSend k c g u) : ∃ s, g = recvCell s (dst s c) := by
  obtain ⟨s, -, e⟩ := sum_tally_pos (after k) (fun s => recvCell s (dst s c)) N h
  exact ⟨s, e⟩
theorem owedSig_pos {k : ℕ} {c : Dev nD} {g : GSem nD τ sig} {u : Unit} (h : 0 < owedSig k c g u) :
    (∃ s, g = recvCell s (dst s c)) ∨ ∃ s, g = barCell (dst s c) := by
  unfold owedSig at h
  rw [Pi.add_apply, Finsupp.add_apply] at h
  rcases Nat.eq_zero_or_pos (owedSend 0 c g u) with h0 | h0
  · rw [h0, Nat.zero_add] at h
    obtain ⟨s, -, e⟩ := sum_tally_pos (after k) (fun s => barCell (dst s c)) 1 h
    exact .inr ⟨s, e⟩
  · exact .inl (owedSend_pos h0)

omit [FloatOps F] in
/-- A staging semaphore may be waited for before the first signal and after everything; -/
theorem mayWait_stage (c : Dev nD) (q : DmaSem sig) (hq : role (.dma q) = .other) (O : CellTallies nD τ sig Unit) (hO : O = owedSig 0 c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owedSig_pos hg with ⟨s, rfl⟩ | ⟨s, rfl⟩ <;> exact Finset.mem_singleton_self _)
      (fun p hp => by rw [Finset.mem_singleton.mp hp]; dsimp only [lv]; rw [hq])
      (fun g u hg => by
        rcases owedSig_pos hg with ⟨s, rfl⟩ | ⟨s, rfl⟩
        · rw [lv_recv]; decide
        · rw [lv_bar]; decide)
  · rw [MayWait_zero]; iintro -; iempintro

omit [FloatOps F] in
/-- the barrier may be waited for owing arrivals only. -/
theorem mayWait_bar (c : Dev nD) : (levAts L lv : sProp 𝕄) ⊢ MayWait (c : Thread nD τ) (.reg barS) () (owedSend 0 c) :=
  MayOwe.of_cut (L := L) (lev := lv) 1 (fun p hp => by rw [Finset.mem_singleton.mp hp, L_tc]; exact Finset.mem_singleton_self _)
    (fun g u hg => by obtain ⟨s, rfl⟩ := owedSend_pos hg; exact Finset.mem_singleton_self _)
    (fun p hp => by rw [Finset.mem_singleton.mp hp, lv_bar])
    (fun g u hg => by obtain ⟨s, rfl⟩ := owedSend_pos hg; rw [lv_recv]; decide)

end Cert.KernelIdealExchange
-- ==== Proof.KernelIdealSteps.lean ====
/-
# One signal, one copy, one wait

Each of the kernel's runs of seven equal steps is a state depending on how many of the steps are done, and one theorem
taking the state over any of them.
-/
module

public import proofs.«01_k».proof.Proof.KernelIdealSchedule

@[expose] public section

noncomputable section

namespace Cert.KernelIdealExchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (X : Rows F)

/-! ## What everyone knows: the invariant of every cell, and that it has reached round 0 -/

def records (K : Dev nD × Cel → ℕ) : sProp 𝕄 :=
  iprop((bigSep Finset.univ fun ck : Dev nD × Cel => cellInv ER (exRd X) (K ck) (kcell ck))
    ∗ bigSep Finset.univ fun ck : Dev nD × Cel => reached ER (kcell ck) 0)

instance records_persistent (K : Dev nD × Cel → ℕ) : BI.Persistent (records X K) := by unfold records; infer_instance

variable (K : Dev nD × Cel → ℕ)

omit [FloatOps F] in
theorem rec_inv (ck : Dev nD × Cel) : records X K ⊢ cellInv ER (exRd X) (K ck) (kcell ck) := by
  unfold records
  exact sep_elim_left.trans (bigSep_elim (Finset.mem_univ ck))
omit [FloatOps F] in
theorem rec_reached (ck : Dev nD × Cel) : records X K ⊢ reached ER (kcell ck) 0 := by
  unfold records
  exact sep_elim_right.trans (bigSep_elim (Finset.mem_univ ck))

omit [FloatOps F] in
/-- The summand of the next step taken out of those to come; -/
theorem after_out {k : ℕ} {s : Fin 8} (hs : s.val = k + 1) (Φ : Fin 8 → sProp 𝕄) : bigSep (after k) Φ = iprop(Φ s ∗ bigSep (after (k + 1)) Φ) := by
  rw [after_step hs, bigSep_insert not_mem_after, hs]; rfl
omit [FloatOps F] in
/-- put with those done. -/
theorem upto_in {k : ℕ} {s : Fin 8} (hs : s.val = k + 1) (Φ : Fin 8 → sProp 𝕄) : bigSep (upto (k + 1)) Φ = iprop(Φ s ∗ bigSep (upto k) Φ) := by
  rw [← hs, upto_step hs, bigSep_insert (not_mem_upto hs)]; rfl

/-! ## The signals -/

/-- After `k` signals: the later ones' tokens, and the blocks of columns they hand over. -/
def SigSt (k : ℕ) (c : Dev nD) : sProp 𝕄 :=
  iprop((∃ W, owes (c : Thread nD τ) (owedSig k c) W)
    ∗ bigSep (after k) fun s => iprop(dutyTok ER (barCell (dst s c)) 0 c ∗ ∃ f, colPts c (dst s c) f))

/-- The signal to `dst s c`'s barrier. -/
theorem step_signal (c : Dev nD) (k : ℕ) (s : Fin 8) (hs : s.val = k + 1) (n : Dev nD) (hn : n = dst s c) {k' : ℕ} (hk : 1 = k')
    {α : Type} {Q : α → sProp 𝕄} {kont : PUnit → Prog (TpuEff nD τ sig (Elt F) Λ₀ .tc) α} :
    iprop(records X K ∗ SigSt k c)
      ⊢ iprop((SigSt (k + 1) c -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (n : Thread nD τ) barS k') kont) Q) := by
  subst hn hk
  have hne : c ≠ dst s c := fun h => ne_zero_of_step hs (dst_inj c (h.symm.trans (dst_zero c).symm))
  unfold SigSt
  rw [after_out hs]
  iintro ⟨#Hrec, ⟨%W, HO⟩, ⟨Htok, Hcol⟩, Hrest⟩ Hk
  iapply (Rounds.wp_signal 𝒱₀ ER (exRd X) (c : Thread nD τ) none (dst := (dst s c : Thread nD τ)) (κ := K (dst s c, .inl ()))
      (d := c) (by rw [duties_bar]; exact Finset.mem_erase.mpr ⟨hne, Finset.mem_univ _⟩) (amount_bar X (dst s c) c) () (owedSig (k + 1) c)
      (O₀ := owedSig k c) (by rw [owedSig_step hs, hs]) (W := W)) $$ [HO Htok Hcol]
  · isplitr; · iapply (rec_inv X K (dst s c, .inl ())); iexact Hrec
    isplitl [HO]; · iexact HO
    isplitl [Htok]; · iexact Htok
    isplitl [Hcol]; · rw [payload_bar]; iexact Hcol
    iapply (rec_reached X K (dst s c, .inl ())); iexact Hrec
  iintro HO
  iapply Hk
  isplitl [HO]; · iexists W; iexact HO
  iexact Hrest

/-! ## The barrier's wait -/

omit [FloatOps F] in
/-- The other devices are those at the shifts from 1 on. -/
theorem others_eq (c : Dev nD) (Φ : Dev nD → sProp 𝕄) : bigSep (Finset.univ.erase c) Φ = bigSep (after 0) fun s => Φ (dst s c) := by
  rw [show Finset.univ.erase c = (after 0).map (around c).toEmbedding from by revert c; decide, bigSep_map]; rfl

/-- The wait for seven: a block of columns of every other device comes with it, and the barrier is at zero for good. -/
theorem step_barrier (c : Dev nD) {k' : ℕ} (hk : k' = 7)
    {α : Type} {Q : α → sProp 𝕄} {kont : PUnit → Prog (TpuEff nD τ sig (Elt F) Λ₀ .tc) α} :
    iprop(records X K ∗ (∃ W, owes (c : Thread nD τ) (owedSend 0 c) W) ∗ cred (tallyAt (barCell c) () 7) ∗ atPos ER (barCell c) 0 ∅ 0 ∗ levAts L lv)
      ⊢ iprop((((∃ W, owes (c : Thread nD τ) (owedSend 0 c) W) ∗ semVal (barCell c) 0 ∗ bigSep (after 0) fun s => iprop(∃ f, colPts (dst s c) c f))
            -∗ wp frame (wpE (defs₀ (F := F)) 𝒱₀ (c : Thread nD τ) none) Set.univ (kont ⟨⟩) Q)
          -∗ wp frame (wpE (defs₀ (F := F)) 𝒱₀ (c : Thread nD τ) none) Set.univ (.op (.semWait barS k') kont) Q) := by
  subst hk
  iintro ⟨#Hrec, ⟨%W, HO⟩, Hc, Hat, #Hlev⟩ Hk
  iapply (Rounds.wp_wait_rest_token 𝒱₀ ER (exRd X) (c : Thread nD τ) none (κ := K (c, .inl ()))
      (wpE_semWait_eq 𝒱₀ (c : Thread nD τ) none Set.univ) (Set.mem_univ _) () (O := owedSend 0 c) (W := W) (R := 0) (m := 0) (T := ∅)
      (by rw [expect_bar])) $$ [Hc HO Hat]
  · isplitr; · iapply (rec_inv X K (c, .inl ())); iexact Hrec
    isplitl [Hc]; · iexact Hc
    isplitl [HO]; · iexact HO
    isplitr; · iapply (mayWait_bar c); iexact Hlev
    iexact Hat
  iintro ⟨HO, Hat, -, Hpay⟩
  imod (Rounds.cell_close ER (exRd X) (Set.mem_univ (K (c, .inl ()))) (fun h => h) (R := 0 + 1) (duties_later X (barCell c))) $$ [Hat] with Hz
  · isplitr; · iapply (rec_inv X K (c, .inl ())); iexact Hrec
    iexact Hat
  ihave Hp := (Entails.of_eq ((rest_bar X c).trans (others_eq c _))) $$ Hpay
  iapply Hk
  isplitl [HO]; · iexists _; iexact HO
  isplitl [Hz]; · iexact Hz
  iexact Hp

/-! ## The copies -/

/-- After `k` copies: what the later ones need — their two tokens, the rows to read, the columns to write —, and the
    credit for the departures of those started. -/
def SendSt (k : ℕ) (c : Dev nD) : sProp 𝕄 :=
  iprop((∃ W, owes (c : Thread nD τ) (owedSend k c) W)
    ∗ (bigSep (after k) fun s => iprop((dutyTok ER (sendCell s c) 0 one ∗ dutyTok ER (recvCell s (dst s c)) 0 one) ∗ rowPts c (dst s c) (X c) ∗ ∃ f, colPts (dst s c) c f))
    ∗ bigSep (upto k) fun s => cred (tallyAt (sendCell s c) () N))

/-- A copy of row block `dst s c` of the sent buffer into column block `c` of `dst s c`'s gathered buffer: the start
    takes the rows, the columns and the two tokens, and returns the credit for the departure. -/
theorem wp_copy (c : Dev nD) (s : Fin 8) (hs0 : s ≠ 0) (O : CellTallies nD τ sig Unit) {O₀ : CellTallies nD τ sig Unit} (hO : O₀ = O + tallyAt (recvCell s (dst s c)) () N)
    (f : S128x1024.Idx → Elt F .bf16) (W : Waits sig Unit)
    {hsc : (colM c : Memref sig (Dev.tc (dst s c) : Thread nD τ).2.kind .vmem S128x128 .bf16).view.ref.isScScratch = false}
    {hsrc : (rowM (dst s c)).view.WordExact} {hdst : (colM c).view.WordExact}
    {hsem : DmaTarget.Typed .vmem (.dma (recvS s)) (.remote (Dev.tc (dst s c) : Thread nD τ) (colM c) (.dma (sendS s)) hsc)}
    {α : Type} {Q : α → sProp 𝕄} {kont : PUnit → Prog (TpuEff nD τ sig (Elt F) Λ₀ .tc) α} :
    iprop(cellInv ER (exRd X) (K (c, .inr (.inl s))) (sendCell s c) ∗ cellInv ER (exRd X) (K (dst s c, .inr (.inr s))) (recvCell s (dst s c))
        ∗ rowPts c (dst s c) (X c) ∗ colPts (dst s c) c f
        ∗ owes (c : Thread nD τ) O₀ W
        ∗ dutyTok ER (sendCell s c) 0 one ∗ reached ER (sendCell s c) 0
        ∗ dutyTok ER (recvCell s (dst s c)) 0 one ∗ reached ER (recvCell s (dst s c)) 0)
      ⊢ iprop(((cred (tallyAt (sendCell s c) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (rowM (dst s c)) (.remote (Dev.tc (dst s c) : Thread nD τ) (colM c) (.dma (sendS s)) hsc) (.dma (recvS s)) hsrc hdst hsem) kont) Q) := by
  have h1 : one ∈ (exRd X).duties (sendCell s c) 0 := by rw [duties_send X c s hs0]; exact Finset.mem_singleton_self _
  have h2 : one ∈ (exRd X).duties (recvCell s (dst s c)) 0 := by rw [duties_recv X _ s hs0]; exact Finset.mem_singleton_self _
  have h3 : (colM c).view.amount (.dma (recvS s)) = N := credit_col c
  have h4 : (((rowM (dst s c)).view.loc (c : Thread nD τ)) ↦[(rowM (dst s c)).view.set]{fullShare} X c : sProp 𝕄) ⊢ (exRd X).payload (sendCell s c) 0 one := by
    rw [payload_send]; exact BI.Entails.refl _
  have h5 : (((colM c).view.loc (dst s c : Thread nD τ)) ↦[(colM c).view.set]{fullShare} ((colM c).view.write (Elt F) f ((rowM (dst s c)).view.read (Elt F) (X c)) Finset.univ) : sProp 𝕄)
      ⊢ (exRd X).payload (recvCell s (dst s c)) 0 one := by
    rw [payload_recv, src_dst]
    exact Entails.of_eq (pointsTo_congr (landing_eq X (dst s c) c f))
  exact Rounds.wp_send_pointsTo 𝒱₀ ER (exRd X) (c : Thread nD τ) none (c' := (dst s c : Thread nD τ)) (src := rowM (dst s c)) (dst := colM c)
      (sS := .dma (sendS s)) (sem := .dma (recvS s)) (q := fullShare) (fs := X c) (fd := f)
      (κ₁ := K (c, .inr (.inl s))) (κ₂ := K (dst s c, .inr (.inr s))) (r₁ := 0) (r₂ := 0) (d₁ := one) (d₂ := one)
      h1 h2 () () N h3 (amount_send X c one s) (amount_recv X (dst s c) one s) O hO (W := W) h4 h5

/-- The copy to `dst s c`. -/
theorem step_send (c : Dev nD) (k : ℕ) (s : Fin 8) (hs : s.val = k + 1) (n : Dev nD) (hn : n = dst s c)
    {off off' : Fin 2 → ℕ} {inb : ∀ a, off a + S128x128.size a ≤ S1024x128.size a} {inb' : ∀ a, off' a + S128x128.size a ≤ S128x1024.size a}
    (ho : off = ![128 * (dst s c).val, 0]) (ho' : off' = ![0, 128 * c.val])
    {st : ∀ a, (Rect.unit (s := S1024x128) off S128x128.size inb).stride a = 1} {st' : ∀ a, (Rect.unit (s := S128x1024) off' S128x128.size inb').stride a = 1}
    {hsc : (gM.slice (Rect.unit (s := S128x1024) off' S128x128.size inb') st' : Memref sig (Dev.tc n : Thread nD τ).2.kind .vmem S128x128 .bf16).view.ref.isScScratch = false}
    {hsrc : (sM.slice (Rect.unit (s := S1024x128) off S128x128.size inb) st : Memref sig .tc .vmem S128x128 .bf16).view.WordExact}
    {hdst : (gM.slice (Rect.unit (s := S128x1024) off' S128x128.size inb') st' : Memref sig .tc .vmem S128x128 .bf16).view.WordExact}
    {hsem : DmaTarget.Typed .vmem (.dma (recvS s)) (.remote (Dev.tc n : Thread nD τ) (gM.slice (Rect.unit (s := S128x1024) off' S128x128.size inb') st') (.dma (sendS s)) hsc)}
    {α : Type} {Q : α → sProp 𝕄} {kont : PUnit → Prog (TpuEff nD τ sig (Elt F) Λ₀ .tc) α} :
    iprop(records X K ∗ SendSt X k c)
      ⊢ iprop((SendSt X (k + 1) c -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (sM.slice (Rect.unit (s := S1024x128) off S128x128.size inb) st)
                (.remote (Dev.tc n : Thread nD τ) (gM.slice (Rect.unit (s := S128x1024) off' S128x128.size inb') st') (.dma (sendS s)) hsc) (.dma (recvS s)) hsrc hdst hsem) kont) Q) := by
  subst hn ho ho'
  have hs0 := ne_zero_of_step hs
  unfold SendSt
  rw [after_out hs, upto_in hs]
  iintro ⟨#Hrec, ⟨%W, HO⟩, ⟨⟨⟨HtS, HtR⟩, Hrow, ⟨%f, Hcol⟩⟩, Hrest⟩, Hcr⟩ Hk
  iapply (wp_copy X K c s hs0 (owedSend (k + 1) c) (O₀ := owedSend k c) (by rw [owedSend_step hs, hs]) f W) $$ [HO HtS HtR Hrow Hcol]
  · isplitr; · iapply (rec_inv X K (c, .inr (.inl s))); iexact Hrec
    isplitr; · iapply (rec_inv X K (dst s c, .inr (.inr s))); iexact Hrec
    isplitl [Hrow]; · iexact Hrow
    isplitl [Hcol]; · iexact Hcol
    isplitl [HO]; · iexact HO
    isplitl [HtS]; · iexact HtS
    isplitr; · iapply (rec_reached X K (c, .inr (.inl s))); iexact Hrec
    isplitl [HtR]; · iexact HtR
    iapply (rec_reached X K (dst s c, .inr (.inr s))); iexact Hrec
  iintro ⟨Hnew, HO⟩
  iapply Hk
  isplitl [HO]; · iexists W; iexact HO
  isplitl [Hrest]; · iexact Hrest
  isplitl [Hnew]; · iexact Hnew
  iexact Hcr

/-! ## The waits for arrivals and for departures -/

/-- After `k` waits on the semaphores `q`, owing nothing: the later ones' credit and positions; of those done, the
    counters at zero for good and what they handed over. -/
def WaitSt (q : Fin 8 → DmaSem sig) (P : Fin 8 → sProp 𝕄) (k : ℕ) (c : Dev nD) : sProp 𝕄 :=
  iprop((∃ W, owes (c : Thread nD τ) 0 W)
    ∗ (bigSep (after k) fun s => iprop(cred (tallyAt ((c : Thread nD τ), .dma (q s)) () N) ∗ atPos ER ((c : Thread nD τ), .dma (q s)) 0 ∅ 0))
    ∗ bigSep (upto k) fun s => iprop(semVal ((c : Thread nD τ), .dma (q s)) 0 ∗ P s))

/-- One wait, on a semaphore whose one round expects a block's credit and hands over `P s`. -/
theorem step_wait (q : Fin 8 → DmaSem sig) (P : Fin 8 → sProp 𝕄) (c : Dev nD) (k : ℕ) (s : Fin 8) (hs : s.val = k + 1) (o : Own) (ho : osem o = .dma (q s))
    (hexp : (exRd X).expect ((c : Thread nD τ), .dma (q s)) 0 = N)
    (hrest : bigSep ((exRd X).duties ((c : Thread nD τ), .dma (q s)) 0 \ ∅) (fun d => (exRd X).payload ((c : Thread nD τ), .dma (q s)) 0 d) = P s)
    {w : TpuEff nD τ sig (Elt F) Λ₀ .tc PUnit} (hw : ∀ Kt : PUnit → sProp 𝕄, wpE (defs₀ (F := F)) 𝒱₀ (c : Thread nD τ) none Set.univ w Kt = waitSpec (c : Thread nD τ) Set.univ (.dma (q s)) N Kt)
    {α : Type} {Q : α → sProp 𝕄} {kont : PUnit → Prog (TpuEff nD τ sig (Elt F) Λ₀ .tc) α} :
    iprop(records X K ∗ WaitSt q P k c)
      ⊢ iprop((WaitSt q P (k + 1) c -∗ wp frame (wpE (defs₀ (F := F)) 𝒱₀ (c : Thread nD τ) none) Set.univ (kont ⟨⟩) Q)
          -∗ wp frame (wpE (defs₀ (F := F)) 𝒱₀ (c : Thread nD τ) none) Set.univ (.op w kont) Q) := by
  have hinv : records X K ⊢ cellInv ER (exRd X) (K (c, .inr o)) ((c : Thread nD τ), .dma (q s)) := by
    rw [← ho]; exact rec_inv X K (c, .inr o)
  unfold WaitSt
  rw [after_out hs, upto_in hs]
  iintro ⟨#Hrec, ⟨%W, HO⟩, ⟨⟨Hc, Hat⟩, Hrest⟩, Hdone⟩ Hk
  iapply (Rounds.wp_wait_rest_token 𝒱₀ ER (exRd X) (c : Thread nD τ) none (κ := K (c, .inr o))
      hw (Set.mem_univ _) () (O := 0) (W := W) (R := 0) (m := 0) (T := ∅) (by rw [Nat.zero_add, hexp])) $$ [Hc HO Hat]
  · isplitr; · iapply hinv; iexact Hrec
    isplitl [Hc]; · iexact Hc
    isplitl [HO]; · iexact HO
    isplitr; · rw [MayWait_zero]; iempintro
    iexact Hat
  iintro ⟨HO, Hat, -, Hpay⟩
  imod (Rounds.cell_close ER (exRd X) (Set.mem_univ (K (c, .inr o))) (fun h => h) (R := 0 + 1) (duties_later X ((c : Thread nD τ), .dma (q s)))) $$ [Hat] with Hz
  · isplitr; · iapply hinv; iexact Hrec
    iexact Hat
  ihave Hp := (Entails.of_eq hrest) $$ Hpay
  iapply Hk
  isplitl [HO]; · iexists _; iexact HO
  isplitl [Hrest]; · iexact Hrest
  isplitl [Hz Hp]
  · isplitl [Hz]; · iexact Hz
    iexact Hp
  iexact Hdone

/-- The waits for arrivals hand over blocks of gathered columns; -/
abbrev RecvSt (k : ℕ) (c : Dev nD) : sProp 𝕄 := WaitSt recvS (fun s => colPts c (src s c) (gather X c)) k c
/-- those for departures the rows read. -/
abbrev DoneSt (k : ℕ) (c : Dev nD) : sProp 𝕄 := WaitSt sendS (fun s => rowPts c (dst s c) (X c)) k c

/-- The wait for the arrival from `src s c`. -/
theorem step_recv (c : Dev nD) (k : ℕ) (s : Fin 8) (hs : s.val = k + 1)
    {off' : Fin 2 → ℕ} {inb' : ∀ a, off' a + S128x128.size a ≤ S128x1024.size a} {st' : ∀ a, (Rect.unit (s := S128x1024) off' S128x128.size inb').stride a = 1}
    {m : Memref sig .tc .vmem S128x128 .bf16} {hsrc : m.view.WordExact}
    {hdst : (gM.slice (Rect.unit (s := S128x1024) off' S128x128.size inb') st' : Memref sig .tc .vmem S128x128 .bf16).view.WordExact}
    {α : Type} {Q : α → sProp 𝕄} {kont : PUnit → Prog (TpuEff nD τ sig (Elt F) Λ₀ .tc) α} :
    iprop(records X K ∗ RecvSt X k c)
      ⊢ iprop((RecvSt X (k + 1) c -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (recvS s) m (gM.slice (Rect.unit (s := S128x1024) off' S128x128.size inb') st') hsrc hdst) kont) Q) :=
  step_wait X K recvS _ c k s hs (.inr s) rfl (expect_recv X c s (ne_zero_of_step hs)) (rest_recv X c s (ne_zero_of_step hs))
    (wpE_waitDma2_eq 𝒱₀ (c : Thread nD τ) none Set.univ (hsrc := hsrc) (hdst := hdst))

/-- The wait for the departure of the copy to `dst s c`. -/
theorem step_done (c : Dev nD) (k : ℕ) (s : Fin 8) (hs : s.val = k + 1)
    {off : Fin 2 → ℕ} {inb : ∀ a, off a + S128x128.size a ≤ S1024x128.size a} {st : ∀ a, (Rect.unit (s := S1024x128) off S128x128.size inb).stride a = 1}
    {m : Memref sig .tc .vmem S128x128 .bf16} {hsrc : m.view.WordExact}
    {hdst : (sM.slice (Rect.unit (s := S1024x128) off S128x128.size inb) st : Memref sig .tc .vmem S128x128 .bf16).view.WordExact}
    {α : Type} {Q : α → sProp 𝕄} {kont : PUnit → Prog (TpuEff nD τ sig (Elt F) Λ₀ .tc) α} :
    iprop(records X K ∗ DoneSt X k c)
      ⊢ iprop((DoneSt X (k + 1) c -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (sendS s) m (sM.slice (Rect.unit (s := S1024x128) off S128x128.size inb) st) hsrc hdst) kont) Q) :=
  step_wait X K sendS _ c k s hs (.inl s) rfl (expect_send X c s (ne_zero_of_step hs)) (rest_send X c s (ne_zero_of_step hs))
    (wpE_waitDma2_eq 𝒱₀ (c : Thread nD τ) none Set.univ (hsrc := hsrc) (hdst := hdst))

end Cert.KernelIdealExchange
-- ==== Proof.KernelIdealBody.lean ====
/-
# The kernel's body on one device

The body run from the exchange's ghost state and the device's buffers, at a device that stays a variable. Between the runs
of equal steps (the step theorems of the module before) the held buffers are cut into the blocks the steps move, by the
shift that joins this device to another, and put together again.
-/
module

public import proofs.«01_k».proof.Proof.KernelIdealSteps
public import Idealize.ShloMosaic.Lib.Pipeline.Value

@[expose] public section

noncomputable section

namespace Cert.KernelIdealExchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Rows F) (K : Dev nD × Cel → ℕ)

/-! ## Every device, by its shift from this one -/

omit [FloatOps F] in
theorem zero_and_after (Φ : Fin 8 → sProp 𝕄) : bigSep Finset.univ Φ = iprop(Φ 0 ∗ bigSep (after 0) Φ) := by
  rw [univ_after, bigSep_insert zero_not_mem_after]; rfl
omit [FloatOps F] in
/-- Something per device is that of `c` and those of the devices at the shifts from 1 on, counted forwards -/
theorem by_dst (c : Dev nD) (Φ : Dev nD → sProp 𝕄) : bigSep Finset.univ Φ = iprop(Φ c ∗ bigSep (after 0) fun s => Φ (dst s c)) := by
  rw [bigSep_univ_equiv (around c) Φ, zero_and_after]
  show iprop(Φ (dst 0 c) ∗ _) = _
  rw [dst_zero]; rfl
omit [FloatOps F] in
/-- or backwards. -/
theorem by_src (c : Dev nD) (Φ : Dev nD → sProp 𝕄) : bigSep Finset.univ Φ = iprop(Φ c ∗ bigSep (after 0) fun s => Φ (src s c)) := by
  rw [bigSep_univ_equiv (around' c) Φ, zero_and_after]
  show iprop(Φ (src 0 c) ∗ _) = _
  rw [src_zero]; rfl

/-! ## Into and out of the runs of steps -/

omit [FloatOps F] in
theorem sig_start (c : Dev nD) (f : S128x1024.Idx → Elt F .bf16) :
    iprop((∃ W, owes (c : Thread nD τ) (owedSig 0 c) W) ∗ (bigSep (after 0) fun s => dutyTok ER (barCell (dst s c)) 0 c)
        ∗ ((c : Thread nD τ).loc cc0_scratch1) ↦{fullShare} f)
      ⊢ iprop(SigSt (F := F) 0 c ∗ colPts c c f) := by
  rw [cols_whole, by_dst c]
  unfold SigSt
  rw [bigSep_sep']
  iintro ⟨HO, Ht, Hown, Hcols⟩
  isplitr [Hown]
  · isplitl [HO]; · iexact HO
    isplitl [Ht]; · iexact Ht
    iapply (show (bigSep (after 0) fun s => colPts c (dst s c) f : sProp 𝕄) ⊢ bigSep (after 0) fun s => iprop(∃ f, colPts c (dst s c) f) from
      bigSep_mono fun s _ => by
        show (colPts c (dst s c) f : sProp 𝕄) ⊢ iprop(∃ f, colPts c (dst s c) f)
        iintro H; iexists f; iexact H)
    iexact Hcols
  iexact Hown

omit [FloatOps F] in
theorem sig_end (c : Dev nD) : SigSt (F := F) 7 c ⊢ iprop(∃ W, owes (c : Thread nD τ) (owedSend 0 c) W) := by
  unfold SigSt
  rw [owedSig_seven]
  iintro ⟨HO, -⟩; iexact HO

omit [FloatOps F] in
theorem send_start (c : Dev nD) :
    iprop((∃ W, owes (c : Thread nD τ) (owedSend 0 c) W)
        ∗ (bigSep (after 0) fun s => iprop(dutyTok ER (sendCell s c) 0 one ∗ dutyTok ER (recvCell s (dst s c)) 0 one))
        ∗ (bigSep (after 0) fun s => rowPts c (dst s c) (X c)) ∗ (bigSep (after 0) fun s => iprop(∃ f, colPts (dst s c) c f)))
      ⊢ SendSt X 0 c := by
  unfold SendSt
  simp only [bigSep_sep']
  rw [upto_zero, bigSep_empty]
  iintro ⟨HO, ⟨Ht, Ht'⟩, Hr, Hc⟩
  isplitl [HO]; · iexact HO
  isplitl [Ht Ht' Hr Hc]
  · isplitl [Ht Ht']
    · isplitl [Ht]; · iexact Ht
      iexact Ht'
    isplitl [Hr]; · iexact Hr
    iexact Hc
  iempintro

omit [FloatOps F] in
theorem send_end (c : Dev nD) :
    SendSt X 7 c ⊢ iprop((∃ W, owes (c : Thread nD τ) 0 W) ∗ bigSep (after 0) fun s => cred (tallyAt (sendCell s c) () N)) := by
  unfold SendSt
  rw [owedSend_seven, upto_seven]
  iintro ⟨HO, -, Hc⟩
  isplitl [HO]; · iexact HO
  iexact Hc

omit [FloatOps F] in
theorem wait_start (q : Fin 8 → DmaSem sig) (P : Fin 8 → sProp 𝕄) (c : Dev nD) :
    iprop((∃ W, owes (c : Thread nD τ) 0 W) ∗ (bigSep (after 0) fun s => cred (tallyAt ((c : Thread nD τ), .dma (q s)) () N))
        ∗ bigSep (after 0) fun s => atPos ER ((c : Thread nD τ), .dma (q s)) 0 ∅ 0)
      ⊢ WaitSt q P 0 c := by
  unfold WaitSt
  rw [bigSep_sep', upto_zero, bigSep_empty]
  iintro ⟨HO, Hc, Ha⟩
  isplitl [HO]; · iexact HO
  isplitl [Hc Ha]
  · isplitl [Hc]; · iexact Hc
    iexact Ha
  iempintro

omit [FloatOps F] in
theorem wait_end (q : Fin 8 → DmaSem sig) (P : Fin 8 → sProp 𝕄) (c : Dev nD) :
    WaitSt q P 7 c ⊢ iprop((∃ W, owes (c : Thread nD τ) 0 W) ∗ (bigSep (after 0) fun s => semVal ((c : Thread nD τ), .dma (q s)) 0) ∗ bigSep (after 0) P) := by
  unfold WaitSt
  simp only [upto_seven, bigSep_sep']
  iintro ⟨HO, -, Hz, HP⟩
  isplitl [HO]; · iexact HO
  isplitl [Hz]; · iexact Hz
  iexact HP

/-! ## The device's own block, moved by a load and a store -/

theorem pay1_eq (v : Vec F S1024x128 .bf16) : k0_pay1 v = v := by
  unfold k0_pay1; exact (shapeCast_self _ _).trans (shapeCast_self _ _)
theorem pay2_eq (v : Vec F S128x128 .bf16) : k0_pay2 v = v := by
  unfold k0_pay2; exact shapeCast_self _ _
theorem pay3_eq (v : Vec F S1024x1024 .bf16) : k0_pay3 v = v := by
  unfold k0_pay3; exact (shapeCast_self _ _).trans (shapeCast_self _ _)

/-- The load of the device's own rows. -/
theorem step_load_own (c : Dev nD) {off : Fin 2 → ℕ} {inb : ∀ a, off a + S128x128.size a ≤ S1024x128.size a} (ho : off = ![128 * c.val, 0])
    {hl : (sM : Memref sig .tc .vmem S1024x128 .bf16).view.LoadsAt (Rect.unit (s := S1024x128) off S128x128.size inb).toLoadRect}
    {α : Type} {Q : α → sProp 𝕄} {kont : (S128x128.Idx → Elt F .bf16) → Prog (TpuEff nD τ sig (Elt F) Λ₀ .tc) α} :
    rowPts c c (X c)
      ⊢ iprop((rowPts c c (X c) -∗ wp frame (wpE (defs₀ (F := F)) 𝒱₀ (c : Thread nD τ) none) Set.univ (kont ((rowM c).view.read (Elt F) (X c))) Q)
          -∗ wp frame (wpE (defs₀ (F := F)) 𝒱₀ (c : Thread nD τ) none) Set.univ (.op (.load sM (Rect.unit (s := S1024x128) off S128x128.size inb).toLoadRect hl) kont) Q) := by
  subst ho
  unfold rowPts
  exact wp_load_rect 𝒱₀ (c : Thread nD τ) none Set.univ (m := sM) (r := rowR c) (S := rowI c) (f := X c) (Finset.Subset.refl _)

/-- The load of the device's own columns, whose value the kernel does not use. -/
theorem step_load_col (c : Dev nD) (f : S128x1024.Idx → Elt F .bf16) {off : Fin 2 → ℕ} {inb : ∀ a, off a + S128x128.size a ≤ S128x1024.size a} (ho : off = ![0, 128 * c.val])
    {hl : (gM : Memref sig .tc .vmem S128x1024 .bf16).view.LoadsAt (Rect.unit (s := S128x1024) off S128x128.size inb).toLoadRect}
    {α : Type} {Q : α → sProp 𝕄} {kont : (S128x128.Idx → Elt F .bf16) → Prog (TpuEff nD τ sig (Elt F) Λ₀ .tc) α} :
    colPts c c f
      ⊢ iprop((colPts c c f -∗ wp frame (wpE (defs₀ (F := F)) 𝒱₀ (c : Thread nD τ) none) Set.univ (kont ((colM c).view.read (Elt F) f)) Q)
          -∗ wp frame (wpE (defs₀ (F := F)) 𝒱₀ (c : Thread nD τ) none) Set.univ (.op (.load gM (Rect.unit (s := S128x1024) off S128x128.size inb).toLoadRect hl) kont) Q) := by
  subst ho
  unfold colPts
  exact wp_load_rect 𝒱₀ (c : Thread nD τ) none Set.univ (m := gM) (r := colR c) (S := colI c) (f := f) (Finset.Subset.refl _)

/-- The store of the device's own rows into its own columns: they hold what the gathered buffer is to hold there. -/
theorem step_store_own (c : Dev nD) (f : S128x1024.Idx → Elt F .bf16) {off : Fin 2 → ℕ} {inb : ∀ a, off a + S128x128.size a ≤ S128x1024.size a} (ho : off = ![0, 128 * c.val])
    {hx : ((gM : Memref sig .tc .vmem S128x1024 .bf16).access (Rect.unit (s := S128x1024) off S128x128.size inb)).Stores Finset.univ}
    {hm : (Finset.univ : Finset (Rect.unit (s := S128x1024) off S128x128.size inb).shape.Idx) = Finset.univ ∨ ∀ a, (Rect.unit (s := S128x1024) off S128x128.size inb).stride a = 1}
    {α : Type} {Q : α → sProp 𝕄} {kont : PUnit → Prog (TpuEff nD τ sig (Elt F) Λ₀ .tc) α} :
    colPts c c f
      ⊢ iprop((colPts c c (gather X c) -∗ wp frame (wpE (defs₀ (F := F)) 𝒱₀ (c : Thread nD τ) none) Set.univ (kont ⟨⟩) Q)
          -∗ wp frame (wpE (defs₀ (F := F)) 𝒱₀ (c : Thread nD τ) none) Set.univ
              (.op (.store gM (Rect.unit (s := S128x1024) off S128x128.size inb) (k0_pay2 ((rowM c).view.read (Elt F) (X c))) Finset.univ hx hm) kont) Q) := by
  subst ho
  rw [pay2_eq]
  have e : (colPts c c ((colM c).view.write (Elt F) f ((rowM c).view.read (Elt F) (X c)) Finset.univ) : sProp 𝕄) = colPts c c (gather X c) := by
    unfold colPts; exact pointsTo_congr (landing_eq X c c f)
  rw [← e]
  unfold colPts
  exact wp_store 𝒱₀ (c : Thread nD τ) none Set.univ (m := gM) (r := colR c) (S := colI c) (f := f)
    (w := (rowM c).view.read (Elt F) (X c)) (Mk := Finset.univ) (Finset.Subset.refl _)

omit [FloatOps F] in
theorem hz : (![0, 0] : Fin 2 → Nat) = fun _ => 0 := funext fun a => by fin_cases a <;> rfl

/-- A load of a whole buffer reads what it holds; -/
theorem load_whole (c : Dev nD) {cs : CoreSpace} {i : Fin (sig.nNear .tc cs)} {hκ : sig.names .tc cs i = true} {off : Fin (⟨cs, i, hκ⟩ : Ref sig .tc).ty.shape.rank → ℕ} (ho : off = fun _ => 0) {inb : ∀ a, off a + (⟨cs, i, hκ⟩ : Ref sig .tc).ty.shape.size a ≤ (⟨cs, i, hκ⟩ : Ref sig .tc).ty.shape.size a}
    {hl : (Memref.whole ⟨cs, i, hκ⟩ : Memref sig .tc _ _ _).view.LoadsAt (Rect.unit off (⟨cs, i, hκ⟩ : Ref sig .tc).ty.shape.size inb).toLoadRect} (f : (⟨cs, i, hκ⟩ : Ref sig .tc).ty.Contents (Elt F))
    {α : Type} {Q : α → sProp 𝕄} {kont : (⟨cs, i, hκ⟩ : Ref sig .tc).ty.Contents (Elt F) → Prog (TpuEff nD τ sig (Elt F) Λ₀ .tc) α} :
    (((c : Thread nD τ).loc ⟨cs, i, hκ⟩) ↦{fullShare} f : sProp 𝕄)
      ⊢ iprop(((((c : Thread nD τ).loc ⟨cs, i, hκ⟩) ↦{fullShare} f) -∗ wp frame (wpE (defs₀ (F := F)) 𝒱₀ (c : Thread nD τ) none) Set.univ (kont f) Q)
          -∗ wp frame (wpE (defs₀ (F := F)) 𝒱₀ (c : Thread nD τ) none) Set.univ (.op (.load (Memref.whole ⟨cs, i, hκ⟩) (Rect.unit off (⟨cs, i, hκ⟩ : Ref sig .tc).ty.shape.size inb).toLoadRect hl) kont) Q) := by
  have h := wp_load (defs := defs₀ (F := F)) (Q := Q) 𝒱₀ (c : Thread nD τ) none (Γ := .empty) Set.univ (m := (Memref.whole ⟨cs, i, hκ⟩ : Memref sig .tc _ _ _)) (hl := hl) (k := kont) (f := f) (q := fullShare)
    (S := Finset.univ) (Finset.subset_univ _)
  rwa [Memref.readAt_unit_zero (Elt F) ⟨cs, i, hκ⟩ ho inb f] at h
/-- a store to a whole buffer leaves what was stored. -/
theorem store_whole (c : Dev nD) {cs : CoreSpace} {i : Fin (sig.nNear .tc cs)} {hκ : sig.names .tc cs i = true} {off : Fin (⟨cs, i, hκ⟩ : Ref sig .tc).ty.shape.rank → ℕ} (ho : off = fun _ => 0) {inb : ∀ a, off a + (⟨cs, i, hκ⟩ : Ref sig .tc).ty.shape.size a ≤ (⟨cs, i, hκ⟩ : Ref sig .tc).ty.shape.size a}
    (f : (⟨cs, i, hκ⟩ : Ref sig .tc).ty.Contents (Elt F)) {v : (⟨cs, i, hκ⟩ : Ref sig .tc).ty.Contents (Elt F)} {hx : ((Memref.whole ⟨cs, i, hκ⟩ : Memref sig .tc _ _ _).access (Rect.unit off (⟨cs, i, hκ⟩ : Ref sig .tc).ty.shape.size inb)).Stores Finset.univ}
    {hm : (Finset.univ : Finset (Rect.unit off (⟨cs, i, hκ⟩ : Ref sig .tc).ty.shape.size inb).shape.Idx) = Finset.univ ∨ ∀ a, (Rect.unit off (⟨cs, i, hκ⟩ : Ref sig .tc).ty.shape.size inb).stride a = 1}
    {α : Type} {Q : α → sProp 𝕄} {kont : PUnit → Prog (TpuEff nD τ sig (Elt F) Λ₀ .tc) α} :
    (((c : Thread nD τ).loc ⟨cs, i, hκ⟩) ↦{fullShare} f : sProp 𝕄)
      ⊢ iprop(((((c : Thread nD τ).loc ⟨cs, i, hκ⟩) ↦{fullShare} v) -∗ wp frame (wpE (defs₀ (F := F)) 𝒱₀ (c : Thread nD τ) none) Set.univ (kont ⟨⟩) Q)
          -∗ wp frame (wpE (defs₀ (F := F)) 𝒱₀ (c : Thread nD τ) none) Set.univ (.op (.store (Memref.whole ⟨cs, i, hκ⟩) (Rect.unit off (⟨cs, i, hκ⟩ : Ref sig .tc).ty.shape.size inb) v Finset.univ hx hm) kont) Q) := by
  have h := wp_store (defs := defs₀ (F := F)) (Q := Q) 𝒱₀ (c : Thread nD τ) none (Γ := .empty) Set.univ (m := (Memref.whole ⟨cs, i, hκ⟩ : Memref sig .tc _ _ _)) (hx := hx) (hm := hm) (w := v) (k := kont) (f := f)
    (S := Finset.univ) (Finset.subset_univ _)
  rwa [Memref.write_access_unit_zero_univ (Elt F) ⟨cs, i, hκ⟩ ho inb f v] at h

/-! ## The body -/

/-- The exchange's ghost state device `c` starts from: what everyone knows; its position at the first round of its own
    seventeen cells; the token of each duty it pays. -/
def ghost (c : Dev nD) : sProp 𝕄 :=
  iprop(records X K ∗ atPos ER (barCell c) 0 ∅ 0 ∗ (bigSep Finset.univ fun o : Own => atPos ER ((c : Thread nD τ), osem o) 0 ∅ 0)
    ∗ (bigSep (after 0) fun s => dutyTok ER (barCell (dst s c)) 0 c)
    ∗ (bigSep (after 0) fun s => iprop(dutyTok ER (sendCell s c) 0 one ∗ dutyTok ER (recvCell s (dst s c)) 0 one)))

/-- The credit it starts with, and the levels. -/
def credits (c : Dev nD) : sProp 𝕄 :=
  iprop(cred (tallyAt (barCell c) () 7) ∗ (bigSep (after 0) fun s => cred (tallyAt (recvCell s c) () N)) ∗ levAts L lv)

/-- The three buffers of the kernel's own. -/
def scratch (c : Dev nD) : sProp 𝕄 :=
  iprop((∃ f, ((c : Thread nD τ).loc cc0_scratch0) ↦{fullShare} f) ∗ (∃ f, ((c : Thread nD τ).loc cc0_scratch1) ↦{fullShare} f)
    ∗ ∃ f, ((c : Thread nD τ).loc cc0_scratch2) ↦{fullShare} f)

/-- Its seventeen counters, at zero. -/
def zeros (c : Dev nD) : sProp 𝕄 :=
  iprop((bigSep Finset.univ fun o : Own => semVal ((c : Thread nD τ), osem o) 0) ∗ semVal (barCell c) 0)

/-- The two operands' staging buffers, the result's. -/
def staged (c : Dev nD) (w : S1024x1024.Idx → Elt F .bf16) (o : S128x1024.Idx → Elt F .f32) : sProp 𝕄 :=
  iprop((((c : Thread nD τ).loc cc0_stg0_0) ↦{fullShare} X c) ∗ (((c : Thread nD τ).loc cc0_stg1_0) ↦{fullShare} w) ∗ ((c : Thread nD τ).loc cc0_stg2_0) ↦{fullShare} o)

def bodyIn (c : Dev nD) (w : S1024x1024.Idx → Elt F .bf16) (o : S128x1024.Idx → Elt F .f32) : sProp 𝕄 :=
  iprop(ghost X K c ∗ credits c ∗ scratch c ∗ (∃ W, owes (c : Thread nD τ) (owedSig 0 c) W) ∗ staged X c w o)
/-- What it ends with: nothing owed, every counter at zero, the result's staging buffer holding the product clipped at zero. -/
def bodyOut (c : Dev nD) (w : S1024x1024.Idx → Elt F .bf16) : sProp 𝕄 :=
  iprop(scratch c ∗ zeros c ∗ (∃ W, owes (c : Thread nD τ) 0 W) ∗ staged X c w (k0_pay4 (gather X c) w))

omit [FloatOps F] in
/-- The two semaphores of shift 0, which no copy uses, close at once. -/
theorem close_unused (c : Dev nD) (o : Own) (h : ∀ r, 0 ≤ r → (exRd X).duties ((c : Thread nD τ), osem o) r = ∅) :
    iprop(records X K ∗ atPos ER ((c : Thread nD τ), osem o) 0 ∅ 0) ⊢ iprop(|={Set.univ}=> semVal ((c : Thread nD τ), osem o) 0) := by
  iintro ⟨#Hrec, Hat⟩
  iapply (Rounds.cell_close ER (exRd X) (Set.mem_univ (K (c, .inr o))) (fun h => h) (R := 0) h)
  isplitr; · iapply (rec_inv X K (c, .inr o)); iexact Hrec
  iexact Hat

omit [FloatOps F] in
theorem own_split (Φ : Own → sProp 𝕄) :
    bigSep Finset.univ Φ = iprop((Φ (.inl 0) ∗ bigSep (after 0) fun s => Φ (.inl s)) ∗ (Φ (.inr 0) ∗ bigSep (after 0) fun s => Φ (.inr s))) := by
  rw [bigSep_univ_sum, zero_and_after, zero_and_after]; rfl

set_option maxHeartbeats 4000000 in
set_option maxRecDepth 8000 in
/-- The body, run in program order. -/
theorem sound_body (c : Dev nD) (w : S1024x1024.Idx → Elt F .bf16) (o : S128x1024.Idx → Elt F .f32) (Kt : PUnit → sProp 𝕄) :
    iprop(bodyIn X K c w o ∗ (bodyOut X c w -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) (Memref.whole cc0_scratch2) (Memref.isWhole_whole _) cc0_scratch3 cc0_scratch4) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part1_skel, k0_part2_skel, k0_part3_skel, k0_part4_skel, k0_part5_skel, k0_part6_skel, k0_part7_skel, k0_part8_skel, k0_part9_skel, k0_part10_skel,
    semSignalWord, semWaitWord, Prog.lift, Prog.bind_op, Prog.bind_ret, Prog.pure_eq_ret, wp_deviceId]
  unfold bodyIn ghost credits scratch staged
  rw [own_split]
  iintro ⟨⟨⟨#Hrec, HatB, ⟨⟨HatS0, HatS⟩, HatV0, HatV⟩, HtB, HtC⟩, ⟨HcB, HcV, #Hlev⟩, ⟨⟨%f0, Hs⟩, ⟨%f1, Hg⟩, ⟨%f2, Hb⟩⟩, HO, Hx, Hw, Ho⟩, Hk⟩
  -- the signals
  ihave H := (sig_start c f1) $$ [HO HtB Hg]
  · isplitl [HO]; · iexact HO
    isplitl [HtB]; · iexact HtB
    iexact Hg
  icases H with ⟨Hst, Hown⟩
  iapply (step_signal X K c 0 1 rfl _ (dev1_eq c) (by decide)) $$ [Hst]
  · isplitr; · iexact Hrec
    iexact Hst
  iintro Hst
  iapply (step_signal X K c 1 2 rfl _ (dev2_eq c) (by decide)) $$ [Hst]
  · isplitr; · iexact Hrec
    iexact Hst
  iintro Hst
  iapply (step_signal X K c 2 3 rfl _ (dev3_eq c) (by decide)) $$ [Hst]
  · isplitr; · iexact Hrec
    iexact Hst
  iintro Hst
  iapply (step_signal X K c 3 4 rfl _ (dev4_eq c) (by decide)) $$ [Hst]
  · isplitr; · iexact Hrec
    iexact Hst
  iintro Hst
  iapply (step_signal X K c 4 5 rfl _ (dev5_eq c) (by decide)) $$ [Hst]
  · isplitr; · iexact Hrec
    iexact Hst
  iintro Hst
  iapply (step_signal X K c 5 6 rfl _ (dev6_eq c) (by decide)) $$ [Hst]
  · isplitr; · iexact Hrec
    iexact Hst
  iintro Hst
  iapply (step_signal X K c 6 7 rfl _ (dev7_eq c) (by decide)) $$ [Hst]
  · isplitr; · iexact Hrec
    iexact Hst
  iintro Hst
  ihave HO := (sig_end c) $$ Hst
  -- the barrier
  iapply (step_barrier X K c (by decide)) $$ [HO HcB HatB]
  · isplitr; · iexact Hrec
    isplitl [HO]; · iexact HO
    isplitl [HcB]; · iexact HcB
    isplitl [HatB]; · iexact HatB
    iexact Hlev
  iintro ⟨HO, HzB, Hcols⟩
  -- the operand copied to the buffer sent from
  iapply (load_whole c hz (X c)) $$ Hx; iintro Hx
  iapply (load_whole c hz f0) $$ Hs; iintro Hs
  iapply (store_whole c hz f0) $$ Hs; iintro Hs
  ihave Hs := (Entails.of_eq ((congrArg (fun v => (((c : Thread nD τ).loc cc0_scratch0) ↦{fullShare} v : sProp 𝕄)) (pay1_eq (X c))).trans
    ((rows_whole c (X c)).trans (by_dst c _)))) $$ Hs
  icases Hs with ⟨Hrow, Hrows⟩
  -- the copies
  ihave Hst := (send_start X c) $$ [HO HtC Hrows Hcols]
  · isplitl [HO]; · iexact HO
    isplitl [HtC]; · iexact HtC
    isplitl [Hrows]; · iexact Hrows
    iexact Hcols
  iapply (step_send X K c 0 1 rfl _ (dev8_eq c) (off2_eq c 0) (k0_off1_eq c)) $$ [Hst]
  · isplitr; · iexact Hrec
    iexact Hst
  iintro Hst
  iapply (step_send X K c 1 2 rfl _ (dev9_eq c) (off2_eq c 1) (k0_off1_eq c)) $$ [Hst]
  · isplitr; · iexact Hrec
    iexact Hst
  iintro Hst
  iapply (step_send X K c 2 3 rfl _ (dev10_eq c) (off2_eq c 2) (k0_off1_eq c)) $$ [Hst]
  · isplitr; · iexact Hrec
    iexact Hst
  iintro Hst
  iapply (step_send X K c 3 4 rfl _ (dev11_eq c) (off2_eq c 3) (k0_off1_eq c)) $$ [Hst]
  · isplitr; · iexact Hrec
    iexact Hst
  iintro Hst
  iapply (step_send X K c 4 5 rfl _ (dev12_eq c) (off2_eq c 4) (k0_off1_eq c)) $$ [Hst]
  · isplitr; · iexact Hrec
    iexact Hst
  iintro Hst
  iapply (step_send X K c 5 6 rfl _ (dev13_eq c) (off2_eq c 5) (k0_off1_eq c)) $$ [Hst]
  · isplitr; · iexact Hrec
    iexact Hst
  iintro Hst
  iapply (step_send X K c 6 7 rfl _ (dev14_eq c) (off2_eq c 6) (k0_off1_eq c)) $$ [Hst]
  · isplitr; · iexact Hrec
    iexact Hst
  iintro Hst
  ihave H := (send_end X c) $$ Hst
  icases H with ⟨HO, HcS⟩
  -- the device's own block, and the other operand
  iapply (step_load_own X c (k0_off3_eq c)) $$ Hrow; iintro Hrow
  iapply (step_load_col c f1 (k0_off4_eq c)) $$ Hown; iintro Hown
  iapply (step_store_own X c f1 (k0_off4_eq c)) $$ Hown; iintro Hown
  iapply (load_whole c hz w) $$ Hw; iintro Hw
  iapply (load_whole c hz f2) $$ Hb; iintro Hb
  iapply (store_whole c hz f2) $$ Hb; iintro Hb
  ihave Hb := (Entails.of_eq (congrArg (fun v => (((c : Thread nD τ).loc cc0_scratch2) ↦{fullShare} v : sProp 𝕄)) (pay3_eq w))) $$ Hb
  -- the arrivals
  ihave Hst := (wait_start recvS (fun s => colPts c (src s c) (gather X c)) c) $$ [HO HcV HatV]
  · isplitl [HO]; · iexact HO
    isplitl [HcV]; · iexact HcV
    iexact HatV
  iapply (step_recv X K c 0 1 rfl) $$ [Hst]
  · isplitr; · iexact Hrec
    iexact Hst
  iintro Hst
  iapply (step_recv X K c 1 2 rfl) $$ [Hst]
  · isplitr; · iexact Hrec
    iexact Hst
  iintro Hst
  iapply (step_recv X K c 2 3 rfl) $$ [Hst]
  · isplitr; · iexact Hrec
    iexact Hst
  iintro Hst
  iapply (step_recv X K c 3 4 rfl) $$ [Hst]
  · isplitr; · iexact Hrec
    iexact Hst
  iintro Hst
  iapply (step_recv X K c 4 5 rfl) $$ [Hst]
  · isplitr; · iexact Hrec
    iexact Hst
  iintro Hst
  iapply (step_recv X K c 5 6 rfl) $$ [Hst]
  · isplitr; · iexact Hrec
    iexact Hst
  iintro Hst
  iapply (step_recv X K c 6 7 rfl) $$ [Hst]
  · isplitr; · iexact Hrec
    iexact Hst
  iintro Hst
  ihave H := (wait_end recvS (fun s => colPts c (src s c) (gather X c)) c) $$ Hst
  icases H with ⟨HO, HzV, Hcols⟩
  ihave Hg := (Entails.of_eq ((cols_whole c (gather X c)).trans (by_src c _)).symm) $$ [Hown Hcols]
  · isplitl [Hown]; · iexact Hown
    iexact Hcols
  -- the product
  iapply (load_whole c hz (gather X c)) $$ Hg; iintro Hg
  iapply (load_whole c hz w) $$ Hb; iintro Hb
  iapply (load_whole c hz o) $$ Ho; iintro Ho
  iapply (store_whole c hz o) $$ Ho; iintro Ho
  -- the departures
  ihave Hst := (wait_start sendS (fun s => rowPts c (dst s c) (X c)) c) $$ [HO HcS HatS]
  · isplitl [HO]; · iexact HO
    isplitl [HcS]; · iexact HcS
    iexact HatS
  iapply (step_done X K c 0 1 rfl) $$ [Hst]
  · isplitr; · iexact Hrec
    iexact Hst
  iintro Hst
  iapply (step_done X K c 1 2 rfl) $$ [Hst]
  · isplitr; · iexact Hrec
    iexact Hst
  iintro Hst
  iapply (step_done X K c 2 3 rfl) $$ [Hst]
  · isplitr; · iexact Hrec
    iexact Hst
  iintro Hst
  iapply (step_done X K c 3 4 rfl) $$ [Hst]
  · isplitr; · iexact Hrec
    iexact Hst
  iintro Hst
  iapply (step_done X K c 4 5 rfl) $$ [Hst]
  · isplitr; · iexact Hrec
    iexact Hst
  iintro Hst
  iapply (step_done X K c 5 6 rfl) $$ [Hst]
  · isplitr; · iexact Hrec
    iexact Hst
  iintro Hst
  iapply (step_done X K c 6 7 rfl) $$ [Hst]
  · isplitr; · iexact Hrec
    iexact Hst
  iintro Hst
  ihave H := (wait_end sendS (fun s => rowPts c (dst s c) (X c)) c) $$ Hst
  icases H with ⟨HO, HzS, Hrows⟩
  ihave Hs := (Entails.of_eq ((rows_whole c (X c)).trans (by_dst c _)).symm) $$ [Hrow Hrows]
  · isplitl [Hrow]; · iexact Hrow
    iexact Hrows
  rw [wp_ret]
  imod (close_unused X K c (.inl 0) (duties_send_zero X c)) $$ [HatS0] with HzS0
  · isplitr; · iexact Hrec
    iexact HatS0
  imod (close_unused X K c (.inr 0) (duties_recv_zero X c)) $$ [HatV0] with HzV0
  · isplitr; · iexact Hrec
    iexact HatV0
  imodintro
  iapply Hk
  unfold bodyOut scratch zeros staged
  rw [own_split]
  isplitl [Hs Hg Hb]
  · isplitl [Hs]; · iexists _; iexact Hs
    isplitl [Hg]; · iexists _; iexact Hg
    iexists _; iexact Hb
  isplitl [HzS0 HzS HzV0 HzV HzB]
  · isplitr [HzB]
    · isplitl [HzS0 HzS]
      · isplitl [HzS0]; · iexact HzS0
        iexact HzS
      · isplitl [HzV0]; · iexact HzV0
        iexact HzV
    iexact HzB
  isplitl [HO]; · iexact HO
  isplitl [Hx]; · iexact Hx
  isplitl [Hw]; · iexact Hw
  iexact Ho

end Cert.KernelIdealExchange
-- ==== Proof.KernelIdealLaunch.lean ====
/-
# The run of the whole mesh

The ghost state of the exchange made at launch and dealt to the devices, the credit a device's cells are owed at launch,
and the run: every device's body proved, the whole program ends with each result array at the exchange's product, the
arguments unchanged and every semaphore counter at zero.
-/
module

public import proofs.«01_k».proof.Proof.KernelIdealBody
public import proofs.«01_k».proof.Proof.Gen.KernelIdeal.Launch
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

noncomputable section

namespace Cert.KernelIdealExchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every counter zero, arbitrary generator registers. -/
def mem₀ : MemSt nD τ sig (Elt F) := ⟨m, fun _ => 0, ρ⟩

/-! ## What the body is run with -/

/-- Each device's operands as staged, and its result. -/
def xAt : Rows F := fun c => (win0_0.blk (0 : Fin 1)).view.read (Elt F) ((mem₀ m ρ).mem ((c : Thread nD τ).loc main_arg0))
def wAt (c : Dev nD) : S1024x1024.Idx → Elt F .bf16 := (win0_1.blk (0 : Fin 1)).view.read (Elt F) ((mem₀ m ρ).mem ((c : Thread nD τ).loc main_arg1))
def outAt (c : Dev nD) : S128x1024.Idx → Elt F .f32 := k0_pay4 (gather (xAt m ρ) c) (wAt m ρ c)

theorem N_one : cfg0.N = 1 := by decide
def pt : Fin cfg0.N := ⟨0, by rw [N_one]; decide⟩
theorem eq_pt (t : Fin cfg0.N) : t = pt := by
  obtain ⟨t, ht⟩ := t; have := N_one; exact Fin.ext (by simp only [pt]; omega)

def start (c : Dev nD) : sProp 𝕄 := iprop((∃ K, ghost (xAt m ρ) K c) ∗ credits c)
def phiIn (c : Dev nD) : sProp 𝕄 := iprop(start m ρ c ∗ scratch c)
def phiOut (c : Dev nD) : sProp 𝕄 := iprop(scratch c ∗ zeros c)

/-- The pipeline's data: its arrays as at launch, its one point's contents, what the body starts and ends with. -/
def dats (_ : Fin 1) (c : Dev nD) : Dat τ (Elt F) Unit ℕ UU ℕ cfg0 c where
  A w := (mem₀ m ρ).mem ((cfg0.win w).arr.view.loc (c : Thread nD τ))
  after w _ := match w with
    | ⟨0, _⟩ => xAt m ρ c
    | ⟨1, _⟩ => wAt m ρ c
    | ⟨2, _⟩ => outAt m ρ c
  Φ t := match t with
    | ⟨0, _⟩ => phiIn m ρ c
    | ⟨_ + 1, _⟩ => phiOut c
  q _ := fullShare
  owed t := match t with
    | ⟨0, _⟩ => owedSig 0 c
    | ⟨_ + 1, _⟩ => 0

theorem fetched_0 (t : Fin cfg0.N) : (cfg0.win (0 : Fin 3)).fetch t = true := by rw [eq_pt t]; rfl
theorem fetched_1 (t : Fin cfg0.N) : (cfg0.win (1 : Fin 3)).fetch t = true := by rw [eq_pt t]; rfl

/-- A staging buffer held, at contents known up to an equation. -/
abbrev held (c : Dev nD) (b : Ref sig .tc) (v : b.ty.Contents (Elt F)) : sProp 𝕄 :=
  iprop(∃ f : Buf (Elt F) (((c : Dev nD) : Thread nD τ).loc b), ⌜f = v⌝ ∗ (((c : Thread nD τ).loc b) ↦{fullShare} f))

omit [FloatOps F] in
theorem owns_held (c : Dev nD) (b : Ref sig .tc) (v : b.ty.Contents (Elt F)) :
    (owns (Ix := Unit) (Name := ℕ) (U := UU) (Lvl := ℕ) (c : Thread nD τ) (Memref.whole b) fullShare v : sProp 𝕄) = held c b v := by
  unfold owns; simp only [Memref.view_whole, View.read_whole, View.set_whole]

def obIn (c : Dev nD) : sProp 𝕄 :=
  iprop(phiIn m ρ c ∗ (dats m ρ 0 c).owesAt () pt.castSucc
    ∗ (∃ d, held c cc0_stg0_0 ((dats m ρ 0 c).before (0 : Fin 3) pt d))
    ∗ (∃ d, held c cc0_stg1_0 ((dats m ρ 0 c).before (1 : Fin 3) pt d))
    ∗ (∃ d, held c cc0_stg2_0 ((dats m ρ 0 c).before (2 : Fin 3) pt d)))
def obOut (c : Dev nD) : sProp 𝕄 :=
  iprop(phiOut c ∗ (dats m ρ 0 c).owesAt () pt.succ ∗ held c cc0_stg0_0 (xAt m ρ c) ∗ held c cc0_stg1_0 (wAt m ρ c) ∗ held c cc0_stg2_0 (outAt m ρ c))

/-- What the pipeline hands the body is what the body was run from; -/
theorem ob_in (c : Dev nD) : obIn m ρ c ⊢ iprop(∃ K o, bodyIn (xAt m ρ) K c (wAt m ρ c) o) := by
  unfold obIn phiIn start bodyIn staged Dat.owesAt Pipeline.owesWithin
  rw [show (dats m ρ 0 c).owed pt.castSucc = owedSig 0 c from rfl]
  iintro ⟨⟨⟨⟨%K, Hg⟩, Hcr⟩, Hscr⟩, ⟨%W, %hW, HO⟩, ⟨%d0, %g0, %h0, Hx⟩, ⟨%d1, %g1, %h1, Hw⟩, ⟨%d2, %g2, %h2, Ho⟩⟩
  have hx : g0 = xAt m ρ c := by rw [h0]; unfold Dat.before; rw [if_pos (fetched_0 pt)]; rfl
  have hw : g1 = wAt m ρ c := by rw [h1]; unfold Dat.before; rw [if_pos (fetched_1 pt)]; rfl
  subst hx hw
  iexists K
  iexists g2
  isplitl [Hg]; · iexact Hg
  isplitl [Hcr]; · iexact Hcr
  isplitl [Hscr]; · iexact Hscr
  isplitl [HO]; · iexists W; iexact HO
  isplitl [Hx]; · iexact Hx
  isplitl [Hw]; · iexact Hw
  iexact Ho

/-- and what the body ends with is what the pipeline wants back. -/
theorem ob_out (c : Dev nD) : bodyOut (xAt m ρ) c (wAt m ρ c) ⊢ obOut m ρ c := by
  unfold obOut phiOut bodyOut staged Dat.owesAt Pipeline.owesWithin
  rw [show (dats m ρ 0 c).owed pt.succ = 0 from rfl]
  iintro ⟨Hscr, Hz, ⟨%W, HO⟩, Hx, Hw, Ho⟩
  isplitl [Hscr Hz]
  · isplitl [Hscr]; · iexact Hscr
    iexact Hz
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

set_option maxRecDepth 8000 in
/-- The pipeline's obligation on the body, on device `c`. -/
theorem body_obligation (c : Dev nD) : BodyObligation (dats (F := F) m ρ 0 c) (defs₀ (F := F)) 𝒱₀ () Set.univ := fun t => by
  rw [eq_pt t, bigSep_W0, bigSep_W0]
  simp only [owns_held]
  show obIn m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      (Memref.whole cc0_scratch1) (Memref.isWhole_whole _) (Memref.whole cc0_scratch2) (Memref.isWhole_whole _) cc0_scratch3 cc0_scratch4) (fun _ => obOut m ρ c)
  iintro H
  ihave H := (ob_in m ρ c) $$ H
  icases H with ⟨%K, %o, H⟩
  iapply (sound_body (xAt m ρ) K c (wAt m ρ c) o fun _ => obOut m ρ c)
  isplitl [H]; · iexact H
  iintro H
  iapply (ob_out m ρ c); iexact H

/-! ## The ghost state at launch -/

theorem ownSemFacts : Pipeline.OwnSemFacts cfg0.spec osem := by decide

theorem share_full (c : Dev nD) (w : Fin cfg0.W) : (dats m ρ 0 c).share w = fullShare := by unfold Dat.share; split <;> rfl

theorem csem_injective : Function.Injective csem := by
  intro a b h
  have h' := congrArg role h
  rcases a with u | s | s <;> rcases b with u' | s' | s' <;> simp only [csem, osem, role_bar, role_send, role_recv] at h' <;>
    first | rfl | (cases h'; done) | (cases h'; rfl)
theorem kcell_injective : Function.Injective (kcell : Dev nD × Cel → GSem nD τ sig) := fun a b h =>
  Prod.ext (show a.1 = b.1 from congrArg (fun g : GSem nD τ sig => g.1.1) h) (csem_injective (congrArg Prod.snd h))
def exCells : Finset (GSem nD τ sig) := Finset.univ.map ⟨kcell, kcell_injective⟩

/-- The duty tokens minted: of each device's barrier one for the device at each shift, of its other cells one each. -/
abbrev Tok : Type := Fin 8 ⊕ Own
abbrev tokOf (ct : Dev nD × Tok) : GSem nD τ sig × ℕ × Dev nD := match ct.2 with
  | .inl s => (barCell ct.1, 0, src s ct.1)
  | .inr o => (kcell (ct.1, .inr o), 0, one)
theorem tokOf_injective : Function.Injective (tokOf : Dev nD × Tok → GSem nD τ sig × ℕ × Dev nD) := by
  rintro ⟨c, j⟩ ⟨d, k⟩ h
  rcases j with s | o <;> rcases k with t | p
  · have hc : c = d := congrArg Prod.fst (kcell_injective (a₁ := (c, .inl ())) (a₂ := (d, .inl ())) (congrArg Prod.fst h))
    subst hc
    rw [src_inj c (congrArg (fun x : GSem nD τ sig × ℕ × Dev nD => x.2.2) h)]
  · cases congrArg Prod.snd (kcell_injective (a₁ := (c, .inl ())) (a₂ := (d, .inr p)) (congrArg Prod.fst h))
  · cases congrArg Prod.snd (kcell_injective (a₁ := (c, .inr o)) (a₂ := (d, .inl ())) (congrArg Prod.fst h))
  · cases kcell_injective (a₁ := (c, .inr o)) (a₂ := (d, .inr p)) (congrArg Prod.fst h); rfl
def exToks : Finset (GSem nD τ sig × ℕ × Dev nD) := Finset.univ.map ⟨tokOf, tokOf_injective⟩

def u₀ : UU := (initOf (Pipeline.cells cfgs cellOf_inj) (Pipeline.launchToks cfgs cellOf_inj), initOf exCells exToks)

/-- The tokens of the duties owed to device `c`'s cells, and those of the duties it pays itself. -/
def owedToks (c : Dev nD) : sProp 𝕄 := bigSep Finset.univ fun t : Tok => dutyTok ER (tokOf (c, t)).1 (tokOf (c, t)).2.1 (tokOf (c, t)).2.2
def payToks (c : Dev nD) : sProp 𝕄 :=
  iprop((bigSep (after 0) fun s => dutyTok ER (barCell (dst s c)) 0 c)
    ∗ (bigSep (after 0) fun s => iprop(dutyTok ER (sendCell s c) 0 one ∗ dutyTok ER (recvCell s (dst s c)) 0 one)))

/-- What the launch makes for device `c`, and what it gets in the end. -/
def minted (c : Dev nD) : sProp 𝕄 :=
  iprop((bigSep Finset.univ fun k : Cel => roundState ER (exRd (xAt m ρ)) (kcell (c, k)) 0)
    ∗ (bigSep Finset.univ fun k : Cel => iprop(atPos ER (kcell (c, k)) 0 ∅ 0 ∗ reached ER (kcell (c, k)) 0)) ∗ owedToks c)
def dealt (c : Dev nD) : sProp 𝕄 := iprop(∃ K, ghost (xAt m ρ) K c)

omit [FloatOps F] in
theorem fund_exchange : BI.own (ER (initOf exCells exToks)) ⊢ (|==> bigSep Finset.univ (minted m ρ) : sProp 𝕄) := by
  have hX (Φ : GSem nD τ sig → sProp 𝕄) : bigSep exCells Φ = bigSep Finset.univ fun c : Dev nD => bigSep Finset.univ fun k : Cel => Φ (kcell (c, k)) := by
    unfold exCells; rw [bigSep_map, bigSep_univ_prod]; rfl
  have hT : bigSep exToks (fun x => (dutyTok ER x.1 x.2.1 x.2.2 : sProp 𝕄)) = bigSep Finset.univ fun c : Dev nD => owedToks c := by
    unfold exToks owedToks; rw [bigSep_map, bigSep_univ_prod]; rfl
  iintro HX
  imod (Rounds.fund ER (exRd (xAt m ρ)) exCells exToks) $$ HX with ⟨Hst, Hr, Hat, Htok⟩
  imodintro
  ihave Hst' := (Entails.of_eq (hX fun g => roundState ER (exRd (xAt m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold minted; simp only [bigSep_sep']
  isplitl [Hst']; · iexact Hst'
  isplitl [Hat' Hr']
  · isplitl [Hat'] <;> iassumption
  iexact Htok'

omit [FloatOps F] in
theorem unscoped_bar (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's counters at zero, its own sixteen and the barrier's, are its seventeen cells' — both ways round. -/
theorem counters (c : Dev nD) (Φ : Cel → sProp 𝕄) :
    bigSep Finset.univ Φ = iprop(Φ (.inl ()) ∗ bigSep Finset.univ fun o : Own => Φ (.inr o)) := by
  rw [bigSep_univ_sum, show (Finset.univ : Finset Unit) = {()} from rfl, bigSep_singleton]; rfl

omit [FloatOps F] in
/-- Every cell of a device gets its invariant. -/
theorem invariants (c : Dev nD) :
    iprop(Pipeline.ownSems0 (Ix := Unit) (Name := ℕ) (U := UU) (Lvl := ℕ) (Val := Elt F) (τ := τ) osem c ∗ unscopedSems0 c ∗ minted m ρ c)
      ⊢ |={Set.univ}=> iprop((bigSep Finset.univ fun k => iprop(∃ κ : ℕ, cellInv ER (exRd (xAt m ρ)) κ (kcell (c, k))))
          ∗ (bigSep Finset.univ fun k => iprop(atPos ER (kcell (c, k)) 0 ∅ 0 ∗ reached ER (kcell (c, k)) 0)) ∗ owedToks c) := by
  unfold minted Pipeline.ownSems0
  rw [unscoped_bar]
  iintro ⟨Hos, Hus, Hst, Hat, Htok⟩
  ihave Hv := (Entails.of_eq (counters c fun k => (semVal (kcell (c, k)) 0 : sProp 𝕄)).symm) $$ [Hos Hus]
  · isplitl [Hus]; · iexact Hus
    iexact Hos
  imod (show iprop((bigSep Finset.univ fun k : Cel => semVal (kcell (c, k)) 0) ∗ bigSep Finset.univ fun k : Cel => roundState ER (exRd (xAt m ρ)) (kcell (c, k)) 0)
      ⊢ (|={Set.univ}=> bigSep Finset.univ fun k => iprop(∃ κ : ℕ, cellInv ER (exRd (xAt m ρ)) κ (kcell (c, k))) : sProp 𝕄) from by
        rw [← bigSep_sep']
        exact (bigSep_mono fun k _ => (Rounds.body_intro ER (exRd (xAt m ρ)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- At every shift at once: the device brought there. -/
def shifts : Dev nD × Fin 8 ≃ Dev nD × Fin 8 :=
  ⟨fun p => (dst p.2 p.1, p.2), fun p => (src p.2 p.1, p.2), fun p => Prod.ext (src_dst p.2 p.1) rfl, fun p => Prod.ext (dst_src p.2 p.1) rfl⟩

omit [FloatOps F] in
/-- Something held of each device at each shift is dealt to the devices that shift brings there. -/
theorem deal (A : Fin 8 → Dev nD → sProp 𝕄) :
    (bigSep Finset.univ fun c : Dev nD => bigSep Finset.univ fun s => A s c) ⊢ bigSep Finset.univ fun c : Dev nD => bigSep (after 0) fun s => A s (dst s c) := by
  rw [← bigSep_univ_prod (fun p : Dev nD × Fin 8 => A p.2 p.1), bigSep_univ_equiv shifts, bigSep_univ_prod]
  exact bigSep_mono fun c _ => bigSep_subset (Finset.subset_univ _)

omit [FloatOps F] in
theorem keep (A : Fin 8 → Dev nD → sProp 𝕄) :
    (bigSep Finset.univ fun c : Dev nD => bigSep Finset.univ fun s => A s c) ⊢ bigSep Finset.univ fun c : Dev nD => bigSep (after 0) fun s => A s c :=
  bigSep_mono fun c _ => bigSep_subset (Finset.subset_univ _)

omit [FloatOps F] in
theorem owedToks_eq (c : Dev nD) :
    (owedToks c : sProp 𝕄) = iprop((bigSep Finset.univ fun s => dutyTok ER (barCell c) 0 (src s c))
      ∗ (bigSep Finset.univ fun s => dutyTok ER (sendCell s c) 0 one) ∗ bigSep Finset.univ fun s => dutyTok ER (recvCell s c) 0 one) := by
  unfold owedToks; rw [bigSep_univ_sum, bigSep_univ_sum]; rfl

omit [FloatOps F] in
/-- Each token goes to the device that pays it. -/
theorem deal_tokens : (bigSep Finset.univ fun c : Dev nD => (owedToks c : sProp 𝕄)) ⊢ bigSep Finset.univ fun c : Dev nD => payToks c := by
  have e (s : Fin 8) (c : Dev nD) : (dutyTok ER (barCell (dst s c)) 0 (src s (dst s c)) : sProp 𝕄) = dutyTok ER (barCell (dst s c)) 0 c := by rw [src_dst]
  rw [bigSep_congr (fun c _ => owedToks_eq c)]
  unfold payToks
  simp only [bigSep_sep']
  iintro ⟨H1, H2, H3⟩
  ihave H1 := (deal fun s c => (dutyTok ER (barCell c) 0 (src s c) : sProp 𝕄)) $$ H1
  ihave H1 := (Entails.of_eq (bigSep_congr fun c _ => bigSep_congr fun s _ => e s c)) $$ H1
  ihave H2 := (keep fun s c => (dutyTok ER (sendCell s c) 0 one : sProp 𝕄)) $$ H2
  ihave H3 := (deal fun s c => (dutyTok ER (recvCell s c) 0 one : sProp 𝕄)) $$ H3
  isplitl [H1]; · iexact H1
  isplitl [H2]; · iexact H2
  iexact H3

/-- What each device keeps of its own, and its tokens. -/
def linear (c : Dev nD) : sProp 𝕄 := iprop((bigSep Finset.univ fun k : Cel => atPos ER (kcell (c, k)) 0 ∅ 0) ∗ payToks c)

omit [FloatOps F] in
theorem ghost_intro (K : Dev nD × Cel → ℕ) (c : Dev nD) : iprop(records (xAt m ρ) K ∗ linear c) ⊢ dealt m ρ c := by
  unfold linear payToks dealt ghost
  rw [counters c]
  iintro ⟨HR, ⟨HB, HO⟩, Ht, Ht'⟩
  iexists K
  isplitl [HR]; · iexact HR
  isplitl [HB]; · iexact HB
  isplitl [HO]; · iexact HO
  isplitl [Ht]; · iexact Ht
  iexact Ht'

omit [FloatOps F] in
theorem each_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (exRd (xAt m ρ)) κ (kcell (c, k))))
          ∗ (bigSep Finset.univ fun k => iprop(atPos ER (kcell (c, k)) 0 ∅ 0 ∗ reached ER (kcell (c, k)) 0)) ∗ owedToks c) : sProp 𝕄)
      ⊢ bigSep Finset.univ (dealt m ρ) := by
  simp only [bigSep_sep']
  rw [← bigSep_univ_prod (fun ck : Dev nD × Cel => iprop(∃ κ : ℕ, cellInv ER (exRd (xAt m ρ)) κ (kcell ck))),
    ← bigSep_univ_prod (fun ck : Dev nD × Cel => (reached ER (kcell ck) 0 : sProp 𝕄))]
  iintro ⟨HI, ⟨Hat, #HR⟩, Htok⟩
  ihave HK := (BI.bigSep_exists_pi Finset.univ (fun (ck : Dev nD × Cel) (κ : ℕ) => (cellInv ER (exRd (xAt m ρ)) κ (kcell ck) : sProp 𝕄))) $$ HI
  icases HK with ⟨%K, #HI⟩
  ihave Htk := (deal_tokens (F := F)) $$ Htok
  iapply (each_with (R := records (xAt m ρ) K) fun c _ => ghost_intro m ρ K c)
  isplitr
  · unfold records; isplitl; · iexact HI
    iexact HR
  · unfold linear
    rw [bigSep_sep']
    isplitl [Hat]; · iexact Hat
    iexact Htk

omit [FloatOps F] in
/-- All devices' semaphores turned into the exchange's ghost state, at once. -/
theorem glob : (bigSep Finset.univ fun c => iprop(Pipeline.ownSems0 (Ix := Unit) (Name := ℕ) (U := UU) (Lvl := ℕ) (Val := Elt F) (τ := τ) osem c ∗ unscopedSems0 c ∗ minted m ρ c) : sProp 𝕄)
    ⊢ |={Set.univ}=> bigSep Finset.univ (dealt m ρ) :=
  ((bigSep_mono fun c _ => invariants m ρ c).trans (bigSep_fupd _ _)).trans (BI.fupd_mono (regroup m ρ))

/-! ## The launch credit -/

theorem recv_eq_iff {s t : Fin 8} {a b : Dev nD} : recvCell s a = recvCell t b ↔ s = t ∧ a = b :=
  ⟨fun h => by cases kcell_injective (a₁ := (a, .inr (.inr s))) (a₂ := (b, .inr (.inr t))) h; exact ⟨rfl, rfl⟩, fun h => by rw [h.1, h.2]⟩
theorem bar_eq_iff {a b : Dev nD} : barCell a = barCell b ↔ a = b :=
  ⟨fun h => congrArg Prod.fst (kcell_injective (a₁ := (a, .inl ())) (a₂ := (b, .inl ())) h), fun h => by rw [h]⟩
theorem bar_ne_recv {s : Fin 8} {a b : Dev nD} : barCell a ≠ recvCell s b := fun h => by
  cases kcell_injective (a₁ := (a, .inl ())) (a₂ := (b, .inr (.inr s))) h

theorem eq_dst_iff {s : Fin 8} {c d : Dev nD} : c = dst s d ↔ d = src s c :=
  ⟨fun h => by rw [h, src_dst], fun h => by rw [h, dst_src]⟩

/-- What device `d` owes device `c`'s barrier: one, for the shift that brings `d` to `c`; -/
theorem owed_bar (d c : Dev nD) : owedSig 0 d (barCell c) () = ∑ s ∈ after 0, if d = src s c then 1 else 0 := by
  unfold owedSig owedSend
  rw [Pi.add_apply, Finsupp.add_apply, Finset.sum_apply, Finsupp.finset_sum_apply, Finset.sum_apply, Finsupp.finset_sum_apply,
    Finset.sum_eq_zero (fun s _ => by rw [tallyAt_apply]; exact if_neg fun h => bar_ne_recv h.1), Nat.zero_add]
  refine Finset.sum_congr rfl fun s _ => ?_
  rw [tallyAt_apply]
  exact if_congr ⟨fun h => eq_dst_iff.mp (bar_eq_iff.mp h.1), fun h => ⟨bar_eq_iff.mpr (eq_dst_iff.mpr h), rfl⟩⟩ rfl rfl
/-- what it owes device `c`'s receive semaphore of shift `t`: a block, if that shift brings it to `c`. -/
theorem owed_recv (d c : Dev nD) {t : Fin 8} (ht : t ∈ after 0) : owedSig 0 d (recvCell t c) () = if d = src t c then N else 0 := by
  unfold owedSig owedSend
  rw [Pi.add_apply, Finsupp.add_apply, Finset.sum_apply, Finsupp.finset_sum_apply, Finset.sum_apply, Finsupp.finset_sum_apply,
    Finset.sum_eq_zero (s := after 0) (f := fun s => (tallyAt (barCell (dst s d)) () 1 : CellTallies nD τ sig Unit) (recvCell t c) ())
      (fun s _ => by rw [tallyAt_apply]; exact if_neg fun h => bar_ne_recv h.1.symm), Nat.add_zero,
    Finset.sum_eq_single t (fun s _ hs => by rw [tallyAt_apply]; exact if_neg fun h => hs (recv_eq_iff.mp h.1).1.symm) (fun h => absurd ht h), tallyAt_apply]
  exact if_congr ⟨fun h => eq_dst_iff.mp (recv_eq_iff.mp h.1).2, fun h => ⟨recv_eq_iff.mpr ⟨rfl, eq_dst_iff.mpr h⟩, rfl⟩⟩ rfl rfl

theorem launch_bar (c : Dev nD) :
    tallyOn (barCell c) (launchCredit (Pipeline.owing (owedSig 0)) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun s _ => (Finset.sum_ite_eq' Finset.univ (src s c) fun _ => 1).trans (if_pos (Finset.mem_univ _))]
  decide

theorem launch_recv (c : Dev nD) {t : Fin 8} (ht : t ∈ after 0) :
    tallyOn (recvCell t c) (launchCredit (Pipeline.owing (owedSig 0)) 0 (recvCell t c)) = (tallyAt (recvCell t c) () N : CellTallies nD τ sig Unit) := by
  unfold tallyAt; refine congrArg _ (Finsupp.ext fun u => ?_); cases u
  rw [Pipeline.launchCredit_owing, Finsupp.single_eq_same, Finset.sum_congr rfl fun d _ => owed_recv d c ht, Finset.sum_ite_eq' Finset.univ (src t c) fun _ => N,
    if_pos (Finset.mem_univ _)]

theorem recvLoc_injective : Function.Injective fun s : Fin 8 => (SemLoc.dma (recvS s) : SemLoc sig) := fun s t h =>
  Sum.inr.inj (Sum.inr.inj (csem_injective (a₁ := .inr (.inr s)) (a₂ := .inr (.inr t)) h))

omit [FloatOps F] in
/-- The credit dealt at launch: the barrier's seven units, a block on each receive semaphore in use. -/
theorem creds (c : Dev nD) :
    (Pipeline.launchCred (owedSig 0) c : sProp 𝕄) ⊢ iprop(cred (tallyAt (barCell c) () 7) ∗ bigSep (after 0) fun s => cred (tallyAt (recvCell s c) () N)) := by
  unfold Pipeline.launchCred
  rw [bigSep_univ_at _ (SemLoc.reg barS), launch_bar]
  refine sep_mono_right ?_
  refine (bigSep_subset (t := (after 0).map ⟨_, recvLoc_injective⟩) fun x hx => ?_).trans ?_
  · obtain ⟨s, -, rfl⟩ := Finset.mem_map.mp hx
    exact Finset.mem_erase.mpr ⟨(by intro h; cases h), Finset.mem_univ _⟩
  · rw [bigSep_map]
    exact Entails.of_eq (bigSep_congr fun s hs => congrArg cred (launch_recv c hs))

/-! ## The run -/

omit [FloatOps F] in
theorem start_intro (c : Dev nD) :
    iprop(Pipeline.unscopedRestP Pipeline.Prefetch.none cfg0.spec c (fun b => m ((c : Thread nD τ).loc b)) ∗ levAts L lv
        ∗ Pipeline.launchCred (owedSig 0) c ∗ prngReg c (ρ c) ∗ dealt m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start dealt credits
  isplitl
  · isplitl [HG]; · iexact HG
    isplitl [H1]; · iexact H1
    isplitl [HN]; · iexact HN
    iexact Hlev
  · iempintro

theorem phi_in (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = phiIn m ρ c from rfl, scopedRest0_eq]
  unfold phiIn scratch
  iintro ⟨Hs, -, Hr⟩
  isplitl [Hs]; · iexact Hs
  iexact Hr

theorem phi_out (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = phiOut c from rfl, scopedRest0_eq, unscoped_bar]
  unfold phiOut scratch zeros Pipeline.ownSems0
  iintro ⟨Hr, Hz, HzB⟩
  isplitl [HzB]; · iexact HzB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

set_option maxRecDepth 8000 in
/-- On the mesh of eight devices, for any float values, from any memory with zero counters: every weakly fair execution
    of the program terminates, and every final state has each device's windowed arrays at `finalA` and every semaphore
    counter at zero. -/
theorem run_main : θ_run defs (onTc (τ := τ) (main (F := F))) (mem₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := owedSig 0) (howed₀ := fun _ => rfl) (howedN := fun _ => rfl)
    (L := L) (lv := lv) (hL := L_of_ne) (hwaits := waits m ρ)
    (G := minted m ρ) (G' := dealt m ρ) (u₀ := u₀)
    (hu₀ := by
      unfold u₀
      iintro Hu
      ihave H := (ownU_pair _ _) $$ Hu
      icases H with ⟨HP, HX⟩
      imod (fund_exchange m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi_in m ρ) (hout := phi_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays after the run hold what they held. -/
theorem final_x (c : Dev nD) : finalA m ρ c (0 : Fin 3) = (mem₀ m ρ).mem (win0_0.arr.view.loc (c : Thread nD τ)) :=
  (dats (F := F) m ρ 0 c).arrAt_in (0 : Fin 3) rfl _
theorem final_w (c : Dev nD) : finalA m ρ c (1 : Fin 3) = (mem₀ m ρ).mem (win0_1.arr.view.loc (c : Thread nD τ)) :=
  (dats (F := F) m ρ 0 c).arrAt_in (1 : Fin 3) rfl _

end Cert.KernelIdealExchange
-- ==== Proof.ExchangeValue.lean ====
/-
# The exchanged product against the reference

In exact arithmetic: what the mesh's run leaves in each result array is that device's block of rows of the reference's
whole result.
-/
module

public import proofs.«01_k».proof.Proof.KernelIdealLaunch
public import proofs.«01_k».proof.Proof.Gen.ReferenceIdeal.Run
public import Idealize.ShloMosaic.Lib.Pipeline.ValueKit
public import Idealize.ShloMosaic.Lib.MatmulPlain
public import Idealize.ShloMosaic.Lib.StackMember
public import Idealize.ShloMosaic.Lib.Layout

@[expose] public section

noncomputable section

namespace Cert.KernelIdealExchange

open Cert.KernelIdeal Cert.KernelIdeal.Gen
open Idealize.ShloMosaic
open Idealize.ShloMosaic.TcCoe
open Idealize.SL.Sem
open Idealize.ShloMosaic.Pipeline (Dat)

/-! ## The arrays as the body sees them -/

section Arrays
variable {F : FTy → Type} [FloatOps F]
variable (m : (ℓ : Loc nD τ sig) → Buf (Elt F) ℓ) (ρ : Dev nD → PrngReg)

/-- A device's staged operands are its argument arrays; -/
theorem xAt_eq (c : Dev nD) : xAt m ρ c = m ((c : Thread nD τ).loc main_arg0) := by
  funext i
  show m ((c : Thread nD τ).loc main_arg0) ((win0_0.blk (0 : Fin 1)).view.emb i) = _
  exact congrArg _ (funext fun a => Fin.ext (win0_0.rect_emb_val_of_index_zero (0 : Fin 1) a rfl i))
theorem wAt_eq (c : Dev nD) : wAt m ρ c = m ((c : Thread nD τ).loc main_arg1) := by
  funext i
  show m ((c : Thread nD τ).loc main_arg1) ((win0_1.blk (0 : Fin 1)).view.emb i) = _
  exact congrArg _ (funext fun a => Fin.ext (win0_1.rect_emb_val_of_index_zero (0 : Fin 1) a rfl i))

/-- and its result array ends as the body's result. -/
theorem final_out (c : Dev nD) : finalA m ρ c (2 : Fin 3) = outAt m ρ c :=
  (dats m ρ 0 c).arrAt_eq_of_after_last (2 : Fin 3) pt (by decide +kernel) _ fun j => rfl

end Arrays

/-! ## The value, in exact arithmetic -/

/-- The whole operand's rows `128 c` to `128 c + 127` are what device `c` gathers from the mesh. -/
theorem gather_block (x : (⟨2, ![1024, 1024]⟩ : Shape).Idx → EReal) (c : Dev nD) (r : Fin 128) (k : Fin 1024) :
    gather (fun d : Dev nD => Layout.block ⟨2, ![1024, 128]⟩ ⟨2, ![1024, 1024]⟩ 1 8 d x) c (ValueIdx.ix2 r k)
      = x (ValueIdx.ix2 ⟨128 * c.val + r.val, by have := r.isLt; have : c.val < 8 := c.isLt; omega⟩ k) := by
  refine congrArg x (funext fun a => Fin.ext ?_)
  match a with
  | ⟨0, _⟩ => rfl
  | ⟨1, _⟩ => show k.val / 128 * 128 + k.val % 128 = k.val; omega

/-- The reference's result of the two whole operands. -/
def reference (x w : (⟨2, ![1024, 1024]⟩ : Shape).Idx → EReal) : (⟨2, ![1024, 1024]⟩ : Shape).Idx → EReal := fun i =>
  max (∑ k : Fin 1024, x (ValueIdx.ix2 (i 0) k) * w (ValueIdx.ix2 k (i 1))) (Ideal.ofBits .f32 0x00000000#32)

theorem out_apply (g : Vec Ideal S128x1024 .bf16) (w : Vec Ideal S1024x1024 .bf16) (r : Fin 128) (n : Fin 1024) :
    k0_pay4 (F := Ideal) g w (ValueIdx.ix2 r n) = max (∑ k : Fin 1024, g (ValueIdx.ix2 r k) * w (ValueIdx.ix2 k n)) (Ideal.ofBits .f32 0x00000000#32) := by
  show max (FloatOps.matmul (DotDims.plain 128 1024 1024) none g w (constant (F := Ideal) S128x1024 .f32 0x00000000#32) (ValueIdx.ix2 r n)) (Ideal.ofBits .f32 0x00000000#32) = _
  rw [Ideal.matmul_plain_apply]
  refine congrArg (max · _) ?_
  show Ideal.ofBits .f32 0x00000000#32 + _ = _
  rw [Ideal.ofBits_zero_f32, zero_add]

/-- Device `c`'s product of what it gathers is its block of rows of the reference's result. -/
theorem out_block (x w : (⟨2, ![1024, 1024]⟩ : Shape).Idx → EReal) (c : Dev nD) :
    k0_pay4 (F := Ideal) (gather (fun d : Dev nD => Layout.block ⟨2, ![1024, 128]⟩ ⟨2, ![1024, 1024]⟩ 1 8 d x) c) w
      = Layout.block ⟨2, ![128, 1024]⟩ ⟨2, ![1024, 1024]⟩ 0 8 c (reference x w) := by
  funext i
  obtain ⟨r, n, rfl⟩ : ∃ (r : Fin 128) (n : Fin 1024), i = ValueIdx.ix2 r n := ⟨i 0, i 1, ValueIdx.eq_ix2 i⟩
  rw [out_apply, Layout.block_apply]
  unfold reference
  refine congrArg (max · _) (Finset.sum_congr rfl fun k _ => ?_)
  rw [gather_block]
  refine congrArg₂ (· * ·) (congrArg x (funext fun a => Fin.ext ?_)) (congrArg w (funext fun a => Fin.ext ?_))
  · match a with
    | ⟨0, _⟩ => exact congrArg (· + r.val) (Nat.mul_comm 128 c.val)
    | ⟨1, _⟩ => rfl
  · match a with
    | ⟨0, _⟩ => rfl
    | ⟨1, _⟩ => rfl

end Cert.KernelIdealExchange

namespace Cert.ReferenceIdeal.Value

open Cert.ReferenceIdeal Cert.ReferenceIdeal.Gen Idealize.ShloMosaic

/-- The reference program's composed operations are `reference`: the two roundings change nothing in exact arithmetic. -/
theorem ops_eq (x w : FVec Ideal S1024x1024 .bf16) :
    maximumf (extf .f32 (truncf .bf16 (Host.dotGeneral (F := Ideal) dot_S1024x1024_S1024x1024_S1024x1024_1_0_0_1_n_n none x w) bitsLt_bf16_f32) bitsLt_bf16_f32)
        (broadcastInDim S1024x1024 ![] bcast_S_S1024x1024 (constant (F := Ideal) S_ .f32 0x00000000#32))
      = Cert.KernelIdealExchange.reference x w := by
  funext i
  obtain ⟨r, n, rfl⟩ : ∃ (r n : Fin 1024), i = ValueIdx.ix2 r n := ⟨i 0, i 1, ValueIdx.eq_ix2 i⟩
  show max (Host.dotGeneral (F := Ideal) (DotDims.plain 1024 1024 1024) none x w (ValueIdx.ix2 r n)) (Ideal.ofBits .f32 0x00000000#32) = _
  rw [StackMember.dotGeneral_plain_apply]
  rfl

end Cert.ReferenceIdeal.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelLaunch
public import proofs.«01_k».proof.Proof.KernelIdealLaunch
public import proofs.«01_k».proof.Proof.ExchangeValue
public import Idealize.ShloMosaic.Adequacy
public import Idealize.ShloMosaic.Init

@[expose] public section

noncomputable section

namespace Cert.Proof

open Idealize.ShloMosaic Idealize.SL.Sem

/-- The kernel terminates from every memory, keeps its operands and ends with every semaphore counter at zero. -/
theorem frame_kernel : Cert.quiescent_Kernel := fun m ρ _ =>
  (θ_run Cert.Kernel.defs _ _).mono
    (fun _ h => ⟨fun c => ⟨(h.1 c (0 : Fin 3)).trans (Cert.KernelExchange.final_x m ρ c), (h.1 c (1 : Fin 3)).trans (Cert.KernelExchange.final_w m ρ c)⟩, h.2⟩)
    (Cert.KernelExchange.run_main (F := Bits) m ρ)

/-- So does the kernel read in exact arithmetic, -/
theorem frame_kernelIdeal : Cert.quiescent_KernelIdeal := fun m ρ _ =>
  (θ_run Cert.KernelIdeal.defs _ _).mono
    (fun _ h => ⟨fun c => ⟨(h.1 c (0 : Fin 3)).trans (Cert.KernelIdealExchange.final_x m ρ c), (h.1 c (1 : Fin 3)).trans (Cert.KernelIdealExchange.final_w m ρ c)⟩, h.2⟩)
    (Cert.KernelIdealExchange.run_main m ρ)

/-- and so does the reference, which declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- In exact arithmetic each device's result is its block of rows of the reference's, from any memories in which the
    devices hold the reference's operands: the first by blocks of columns, the second whole. -/
theorem value : Cert.algebraic_KernelIdeal_ReferenceIdeal := fun m ρ m' ρ' _ hag => by
  refine ⟨Cert.KernelIdealExchange.reference _ _,
    (θ_run Cert.KernelIdeal.defs _ _).mono (fun r h c => ⟨?_, (h.1 c (0 : Fin 3)).trans (Cert.KernelIdealExchange.final_x m ρ c),
      (h.1 c (1 : Fin 3)).trans (Cert.KernelIdealExchange.final_w m ρ c)⟩) (Cert.KernelIdealExchange.run_main (F := Ideal) m ρ),
    (θ_run Cert.ReferenceIdeal.defs _ _).mono (fun r h => ⟨(h 0).1.trans (Cert.ReferenceIdeal.Value.ops_eq _ _), (h 0).2⟩)
      (Cert.ReferenceIdeal.Value.run (F := Ideal) m' ρ')⟩
  refine (h.1 c (2 : Fin 3)).trans ((Cert.KernelIdealExchange.final_out m ρ c).trans ?_)
  unfold Cert.KernelIdealExchange.outAt
  rw [Cert.KernelIdealExchange.wAt_eq, (hag c).2,
    show Cert.KernelIdealExchange.xAt m ρ = fun d => Layout.block ⟨2, ![1024, 128]⟩ ⟨2, ![1024, 1024]⟩ 1 8 d _ from
      funext fun d => (Cert.KernelIdealExchange.xAt_eq m ρ d).trans (hag d).1]
  exact Cert.KernelIdealExchange.out_block _ _ c

/-- Everything claimed of the kernel, its exact reading and the reference. -/
theorem claim : Cert.Claim :=
  ⟨Cert.Kernel.Gen.facts, Cert.KernelIdeal.Gen.facts, Cert.ReferenceIdeal.Gen.facts,
    frame_kernel, frame_kernelIdeal, frame_reference, trivial, value⟩

end Cert.Proof

end
